-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_unclipped [hKernelIdeal : Cert.KernelIdeal.Facts] [hClippedIdeal : Cert.ClippedIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 1024]⟩ : Shape).Idx, (Layout.block ⟨2, ![64, 1024]⟩ ⟨2, ![1024, 1024]⟩ 0 16 c ((Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![64, 1024]⟩ : Shape).Idx → _) i = 1#1 → r.2.mem ((c.tc : Thread Cert.KernelIdeal.nD Cert.KernelIdeal.τ).loc Cert.KernelIdeal.main_v1) i = (Layout.block ⟨2, ![64, 1024]⟩ ⟨2, ![1024, 1024]⟩ 0 16 c v0 : (⟨2, ![64, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![1024, 1024]⟩ : Shape).Idx, (Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_unclipped (hKernelIdeal := hKernelIdeal) (hClippedIdeal := hClippedIdeal) (hOn_unclipped := hOn_unclipped)
-- ==== On_unclipped.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_cst : FVec F S_ .f32 := constant S_ .f32 0xC2700000#32
  let main_v1 : FVec F S1024x1024 .f32 := broadcastInDim S1024x1024 ![] bcast_S_S1024x1024 main_cst
  let main_v2 : IVec S1024x1024 1 := cmpf .oge main_v0 main_v1
  let main_cst_0 : FVec F S_ .f32 := constant S_ .f32 0x42700000#32
  let main_v3 : FVec F S1024x1024 .f32 := broadcastInDim S1024x1024 ![] bcast_S_S1024x1024 main_cst_0
  let main_v4 : IVec S1024x1024 1 := cmpf .ole main_v0 main_v3
  let main_v5 : IVec S1024x1024 1 := andi main_v2 main_v4
  main_v5
-- ==== Kernel.lean ====
abbrev S1024x64 : Shape := ⟨2, ![1024, 64]⟩
abbrev S1024x1024 : Shape := ⟨2, ![1024, 1024]⟩
abbrev S64x1024 : Shape := ⟨2, ![64, 1024]⟩
abbrev S16 : Shape := ⟨1, ![16]⟩
abbrev S_ : Shape := ⟨0, ![]⟩
abbrev S1 : Shape := ⟨1, ![1]⟩
abbrev S64x64 : Shape := ⟨2, ![64, 64]⟩
abbrev S64x256 : Shape := ⟨2, ![64, 256]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S64x1024, .f32⟩
  | .local _ .vmem, ⟨0, _⟩ => ⟨S1024x64, .f32⟩
  | .local _ .vmem, ⟨1, _⟩ => ⟨S1024x1024, .f32⟩
  | .local _ .vmem, ⟨2, _⟩ => ⟨S64x1024, .f32⟩
  | .local _ .vmem, ⟨3, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_61 : BitVec 32 := 64#32
  let v65 : BitVec 32 := Scalar.muli v2 c64_i32_61
  let c0_i32_62 : BitVec 32 := 0#32
  ![v65.toNat, 0]
def k0_off3 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c1_i32_64
  let c16_i32_65 : BitVec 32 := 16#32
  let v71 : BitVec 32 := Scalar.remsi v70 c16_i32_65
  let c64_i32_66 : BitVec 32 := 64#32
  let v72 : BitVec 32 := Scalar.muli v71 c64_i32_66
  let c0_i32_72 : BitVec 32 := 0#32
  ![v72.toNat, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let c16_i32_65 : BitVec 32 := 16#32
  let v71 : BitVec 32 := Scalar.remsi v70 c16_i32_65
  let c1_i32_69 : BitVec 32 := 1#32
  let v74 : BitVec 32 := Scalar.muli v71 c1_i32_69
  let v75 : BitVec 32 := Scalar.addi c0_i32_70 v74
  v75.toNat
def k0_dev17 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v82 : BitVec 32 := Scalar.addi v2 c2_i32_73
  let c16_i32_74 : BitVec 32 := 16#32
  let v83 : BitVec 32 := Scalar.remsi v82 c16_i32_74
  let c1_i32_78 : BitVec 32 := 1#32
  let v86 : BitVec 32 := Scalar.muli v83 c1_i32_78
  let v87 : BitVec 32 := Scalar.addi c0_i32_79 v86
  v87.toNat
def k0_dev18 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v94 : BitVec 32 := Scalar.addi v2 c3_i32_82
  let c16_i32_83 : BitVec 32 := 16#32
  let v95 : BitVec 32 := Scalar.remsi v94 c16_i32_83
  let c1_i32_87 : BitVec 32 := 1#32
  let v98 : BitVec 32 := Scalar.muli v95 c1_i32_87
  let v99 : BitVec 32 := Scalar.addi c0_i32_88 v98
  v99.toNat
def k0_dev19 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_91 : BitVec 32 := 4#32
  let v106 : BitVec 32 := Scalar.addi v2 c4_i32_91
  let c16_i32_92 : BitVec 32 := 16#32
  let v107 : BitVec 32 := Scalar.remsi v106 c16_i32_92
  let c1_i32_96 : BitVec 32 := 1#32
  let v110 : BitVec 32 := Scalar.muli v107 c1_i32_96
  let v111 : BitVec 32 := Scalar.addi c0_i32_97 v110
  v111.toNat
def k0_dev20 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_100 : BitVec 32 := 5#32
  let v118 : BitVec 32 := Scalar.addi v2 c5_i32_100
  let c16_i32_101 : BitVec 32 := 16#32
  let v119 : BitVec 32 := Scalar.remsi v118 c16_i32_101
  let c1_i32_105 : BitVec 32 := 1#32
  let v122 : BitVec 32 := Scalar.muli v119 c1_i32_105
  let v123 : BitVec 32 := Scalar.addi c0_i32_106 v122
  v123.toNat
def k0_dev21 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_109 : BitVec 32 := 6#32
  let v130 : BitVec 32 := Scalar.addi v2 c6_i32_109
  let c16_i32_110 : BitVec 32 := 16#32
  let v131 : BitVec 32 := Scalar.remsi v130 c16_i32_110
  let c1_i32_114 : BitVec 32 := 1#32
  let v134 : BitVec 32 := Scalar.muli v131 c1_i32_114
  let v135 : BitVec 32 := Scalar.addi c0_i32_115 v134
  v135.toNat
def k0_dev22 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_118 : BitVec 32 := 7#32
  let v142 : BitVec 32 := Scalar.addi v2 c7_i32_118
  let c16_i32_119 : BitVec 32 := 16#32
  let v143 : BitVec 32 := Scalar.remsi v142 c16_i32_119
  let c1_i32_123 : BitVec 32 := 1#32
  let v146 : BitVec 32 := Scalar.muli v143 c1_i32_123
  let v147 : BitVec 32 := Scalar.addi c0_i32_124 v146
  v147.toNat
def k0_dev23 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_127 : BitVec 32 := 8#32
  let v154 : BitVec 32 := Scalar.addi v2 c8_i32_127
  let c16_i32_128 : BitVec 32 := 16#32
  let v155 : BitVec 32 := Scalar.remsi v154 c16_i32_128
  let c1_i32_132 : BitVec 32 := 1#32
  let v158 : BitVec 32 := Scalar.muli v155 c1_i32_132
  let v159 : BitVec 32 := Scalar.addi c0_i32_133 v158
  v159.toNat
def k0_dev24 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v166 : BitVec 32 := Scalar.addi v2 c9_i32_136
  let c16_i32_137 : BitVec 32 := 16#32
  let v167 : BitVec 32 := Scalar.remsi v166 c16_i32_137
  let c1_i32_141 : BitVec 32 := 1#32
  let v170 : BitVec 32 := Scalar.muli v167 c1_i32_141
  let v171 : BitVec 32 := Scalar.addi c0_i32_142 v170
  v171.toNat
def k0_dev25 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_145 : BitVec 32 := 10#32
  let v178 : BitVec 32 := Scalar.addi v2 c10_i32_145
  let c16_i32_146 : BitVec 32 := 16#32
  let v179 : BitVec 32 := Scalar.remsi v178 c16_i32_146
  let c1_i32_150 : BitVec 32 := 1#32
  let v182 : BitVec 32 := Scalar.muli v179 c1_i32_150
  let v183 : BitVec 32 := Scalar.addi c0_i32_151 v182
  v183.toNat
def k0_dev26 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_154 : BitVec 32 := 11#32
  let v190 : BitVec 32 := Scalar.addi v2 c11_i32_154
  let c16_i32_155 : BitVec 32 := 16#32
  let v191 : BitVec 32 := Scalar.remsi v190 c16_i32_155
  let c1_i32_159 : BitVec 32 := 1#32
  let v194 : BitVec 32 := Scalar.muli v191 c1_i32_159
  let v195 : BitVec 32 := Scalar.addi c0_i32_160 v194
  v195.toNat
def k0_dev27 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_163 : BitVec 32 := 12#32
  let v202 : BitVec 32 := Scalar.addi v2 c12_i32_163
  let c16_i32_164 : BitVec 32 := 16#32
  let v203 : BitVec 32 := Scalar.remsi v202 c16_i32_164
  let c1_i32_168 : BitVec 32 := 1#32
  let v206 : BitVec 32 := Scalar.muli v203 c1_i32_168
  let v207 : BitVec 32 := Scalar.addi c0_i32_169 v206
  v207.toNat
def k0_dev28 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_172 : BitVec 32 := 13#32
  let v214 : BitVec 32 := Scalar.addi v2 c13_i32_172
  let c16_i32_173 : BitVec 32 := 16#32
  let v215 : BitVec 32 := Scalar.remsi v214 c16_i32_173
  let c1_i32_177 : BitVec 32 := 1#32
  let v218 : BitVec 32 := Scalar.muli v215 c1_i32_177
  let v219 : BitVec 32 := Scalar.addi c0_i32_178 v218
  v219.toNat
def k0_dev29 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_181 : BitVec 32 := 14#32
  let v226 : BitVec 32 := Scalar.addi v2 c14_i32_181
  let c16_i32_182 : BitVec 32 := 16#32
  let v227 : BitVec 32 := Scalar.remsi v226 c16_i32_182
  let c1_i32_186 : BitVec 32 := 1#32
  let v230 : BitVec 32 := Scalar.muli v227 c1_i32_186
  let v231 : BitVec 32 := Scalar.addi c0_i32_187 v230
  v231.toNat
def k0_dev30 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_190 : BitVec 32 := 15#32
  let v238 : BitVec 32 := Scalar.addi v2 c15_i32_190
  let c16_i32_191 : BitVec 32 := 16#32
  let v239 : BitVec 32 := Scalar.remsi v238 c16_i32_191
  let c1_i32_195 : BitVec 32 := 1#32
  let v242 : BitVec 32 := Scalar.muli v239 c1_i32_195
  let v243 : BitVec 32 := Scalar.addi c0_i32_196 v242
  v243.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Cells.lean ====
/-
# The cells and the schedule of the all-to-all

Every device of the launch first signals the barrier semaphore of every other device and waits for fifteen
signals. It then sends row block `p` of its staged operand to device `p`, for every other `p`, and copies its own
row block to itself; block `p` of device `c` lands in slot `c` of the communication buffer of device `p`. A device
reads slot `s` of its buffer once the receive semaphore `s` has the block's credit.

This file names those semaphores, the slots of the two buffers, what the communication buffer holds once
everything has landed, and the schedule of the rounds library: who pays which cell, how much, and what it hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdxCoords
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)
open Idealize.ShloMosaic.ValueIdx (ix2)

variable {F : FTy → Type} [FloatOps F]

/-! ## The resource algebra: the pipeline library's part, and the rounds with the paying device as duty name -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Peers -/

/-- There are sixteen devices. -/
theorem dev_lt (c : Dev nD) : c.val < 16 := c.isLt

set_option backward.proofsInPublic true in
/-- The device `d` places after `c`, counting round. -/
def peer (c : Dev nD) (d : Fin 16) : Dev nD := ⟨(c.val + d.val) % 16, Nat.mod_lt _ (by decide)⟩

set_option backward.proofsInPublic true in
/-- How many places after `c` the device `p` is. -/
def dist (c p : Dev nD) : Fin 16 := ⟨(p.val + 16 - c.val) % 16, Nat.mod_lt _ (by decide)⟩

/-- The device as many places after `c` as `p` is, is `p`. -/
theorem peer_dist (c p : Dev nD) : peer c (dist c p) = p := by
  apply Fin.ext; have := dev_lt c; have := dev_lt p; simp only [peer, dist]; omega
/-- The device `d` places after `c` is `d` places after it. -/
theorem dist_peer (c : Dev nD) (d : Fin 16) : dist c (peer c d) = d := by
  apply Fin.ext; have := dev_lt c; have := d.isLt; simp only [peer, dist]; omega
/-- No places on is the device itself. -/
theorem peer_zero (c : Dev nD) : peer c 0 = c := by
  apply Fin.ext; have := dev_lt c; show (c.val + 0) % 16 = c.val; omega
/-- A device one to fifteen places on is another device. -/
theorem peer_ne (c : Dev nD) (d : Fin 16) (h : 0 < d.val) : peer c d ≠ c := by
  intro e; have e' := congrArg Fin.val e; have := dev_lt c; have := d.isLt; simp only [peer] at e'; omega

/-- The devices in the order of their places after `c`. -/
def peers (c : Dev nD) : Fin 16 ≃ Dev nD := ⟨peer c, dist c, dist_peer c, peer_dist c⟩

/-- Different distances lead to different devices. -/
theorem peer_inj (c : Dev nD) : Function.Injective (peer c) := (peers c).injective

/-! ## Semaphores -/

/-- The barrier semaphore, one for each device and not scoped to the launch. -/
abbrev barS : Sem sig := (SemArray.scalar (sig.barrier 0 rfl) : Sems sig S_).sem

set_option backward.proofsInPublic true in
/-- The send semaphore of the transfer to the device `d` places on. -/
def sendS (d : Fin 16) : DmaSem sig := ⟨3 + d.val, by have := d.isLt; show 3 + d.val < 35; omega⟩
set_option backward.proofsInPublic true in
/-- The receive semaphore of the block that device `s` sends. -/
def recvS (s : Dev nD) : DmaSem sig := ⟨19 + s.val, by have := dev_lt s; show 19 + s.val < 35; omega⟩

/-- Every entry lies in its semaphore array. -/
theorem inb_sem (i : Fin 16) : ∀ a, (![i.val] : Fin S16.rank → ℕ) a + S1.size a ≤ S16.size a := by
  revert i; decide

/-- Entry `i` of the send array is `sendS i`, however the kernel spells the offset. -/
theorem send_sem {off : Fin S16.rank → ℕ} {d : Fin 16} (h : off = ![d.val]) (inb) :
    ((cc0_scratch1.slice (Rect.unit (s := S16) off S1.size inb)).squeeze S_ squeezes_S1_S_).sem = sendS d := by
  subst h; revert inb; revert d; decide
/-- Entry `s` of the receive array is `recvS s`, however the kernel spells the offset. -/
theorem recv_sem {off : Fin S16.rank → ℕ} {s : Dev nD} (h : off = ![s.val]) (inb) :
    ((cc0_scratch2.slice (Rect.unit (s := S16) off S1.size inb)).squeeze S_ squeezes_S1_S_).sem = recvS s := by
  subst h; revert inb; revert s; decide

/-- The barrier semaphore of device `c`. -/
abbrev barCell (c : Dev nD) : GSem nD τ sig := ((c : Thread nD τ), .reg barS)
/-- The send semaphore of device `c` for the transfer `d` places on. -/
abbrev sendCell (c : Dev nD) (d : Fin 16) : GSem nD τ sig := ((c : Thread nD τ), .dma (sendS d))
/-- The receive semaphore of device `c` for the block of device `s`. -/
abbrev recvCell (c : Dev nD) (s : Dev nD) : GSem nD τ sig := ((c : Thread nD τ), .dma (recvS s))

/-- The kernel's own semaphores: sends, then receives. -/
abbrev OIx : Type := Fin 16 ⊕ Dev nD
abbrev osem : OIx → SemLoc sig := fun | .inl d => .dma (sendS d) | .inr s => .dma (recvS s)
/-- With the barrier, every semaphore of the exchange. -/
abbrev CIx : Type := Unit ⊕ OIx
abbrev csem : CIx → SemLoc sig := fun | .inl _ => .reg barS | .inr o => osem o
abbrev kcell (ck : Dev nD × CIx) : GSem nD τ sig := ((ck.1 : Thread nD τ), csem ck.2)

/-- What a semaphore is for. -/
inductive Kind where
  | bar
  | send (d : Fin 16)
  | recv (s : Dev nD)
  | other
deriving DecidableEq

set_option backward.proofsInPublic true in
/-- The use of each semaphore of the signature. -/
def kind : SemLoc sig → Kind
  | .reg q => if q = barS then .bar else .other
  | .dma q =>
    if h : 3 ≤ q.val ∧ q.val < 19 then .send ⟨q.val - 3, by omega⟩
    else if h' : 19 ≤ q.val ∧ q.val < 35 then .recv ⟨q.val - 19, by show q.val - 19 < 16; omega⟩
    else .other

/-- The barrier semaphore is used as the barrier. -/
theorem kind_bar : kind (.reg barS) = .bar := by decide
/-- A send semaphore is used for its distance. -/
theorem kind_send (d : Fin 16) : kind (.dma (sendS d)) = .send d := by revert d; decide
/-- A receive semaphore is used for its sender. -/
theorem kind_recv (s : Dev nD) : kind (.dma (recvS s)) = .recv s := by revert s; decide

/-! ## The slots of the staged operand and of the communication buffer -/

/-- Every slot lies in the buffer. -/
theorem inb_slot (s : Dev nD) : ∀ a, (![64 * s.val, 0] : Fin S1024x64.rank → ℕ) a + S64x64.size a ≤ S1024x64.size a := by
  revert s; decide

abbrev xM : Memref sig .tc .vmem S1024x64 .f32 := Memref.whole cc0_stg0_0
abbrev wM : Memref sig .tc .vmem S1024x1024 .f32 := Memref.whole cc0_stg1_0
abbrev oM : Memref sig .tc .vmem S64x1024 .f32 := Memref.whole cc0_stg2_0
abbrev bM : Memref sig .tc .vmem S1024x64 .f32 := Memref.whole cc0_scratch0

/-- Row block `s` of the staged operand, and slot `s` of the communication buffer. -/
abbrev slotR (s : Dev nD) : Rect S1024x64 := Rect.unit (s := S1024x64) ![64 * s.val, 0] S64x64.size (inb_slot s)
abbrev xSlot (s : Dev nD) : Memref sig .tc .vmem S64x64 .f32 := xM.slice (slotR s) (fun _ => rfl)
abbrev bSlot (s : Dev nD) : Memref sig .tc .vmem S64x64 .f32 := bM.slice (slotR s) (fun _ => rfl)

/-- The credit of one block. -/
abbrev N : ℕ := (bSlot 0).view.dmaCredit
/-- A block's credit is positive. -/
theorem N_pos : 0 < N := View.dmaCredit_pos _ (by decide)
/-- Every block's transfer credits the same amount. -/
theorem credit_block (r : Memref sig .tc .vmem S64x64 .f32) : r.view.dmaCredit = N := rfl
/-- Every slot of the buffer has a block's credit. -/
theorem N_slot (s : Dev nD) : (bSlot s).view.dmaCredit = N := rfl
/-- Every block of the operand has a block's credit. -/
theorem N_xslot (s : Dev nD) : (xSlot s).view.dmaCredit = N := rfl

/-! ## Contents -/

/-- The operand `x` as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The operand `w` as staged on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The row of the sender's operand that lands in row `r` of the buffer of device `c`. -/
def srcRow (c : Dev nD) (r : Fin 1024) : Fin 1024 := ⟨64 * c.val + r.val % 64, by have := dev_lt c; omega⟩
/-- The device whose block lands in row `r`. -/
def srcDev (r : Fin 1024) : Dev nD := ⟨r.val / 64, by have := r.isLt; show r.val / 64 < 16; omega⟩

/-- The communication buffer of device `c` once every block has landed. -/
def landed (c : Dev nD) : (cc0_scratch0 : Ref sig .tc).ty.Contents (Elt F) :=
  fun i => xstg m ρ (srcDev (i 0)) (ix2 (srcRow c (i 0)) (i 1))

/-- Slot `s` of device `c`'s communication buffer, owned, with the contents `f`. -/
def slotPts (c s : Dev nD) (f : (cc0_scratch0 : Ref sig .tc).ty.Contents (Elt F)) : sProp 𝕄 :=
  (bSlot s).view.loc (c : Thread nD τ) ↦[(bSlot s).view.set]{fullShare} f
/-- Block `s` of device `c`'s staged operand, owned, with the staged contents. -/
def xPts (c s : Dev nD) : sProp 𝕄 :=
  (xSlot s).view.loc (c : Thread nD τ) ↦[(xSlot s).view.set]{fullShare} xstg m ρ c

omit [FloatOps F] in
/-- A slot can be a payload. -/
instance slotPts_storable (c s : Dev nD) (f) : BI.Storable (upEmb : UEmb _ 𝕄) (slotPts (F := F) c s f) := by unfold slotPts; infer_instance
omit [FloatOps F] in
/-- A block of the operand can be a payload. -/
instance xPts_storable (c s : Dev nD) : BI.Storable (upEmb : UEmb _ 𝕄) (xPts (F := F) m ρ c s) := by unfold xPts; infer_instance

omit [FloatOps F] in
/-- Block `p` of device `c` written over slot `c` of device `p` is what that slot is to hold. -/
theorem landed_write (c p : Dev nD) (fd : (cc0_scratch0 : Ref sig .tc).ty.Contents (Elt F)) :
    ∀ i ∈ (bSlot c).view.set, (bSlot c).view.write (Elt F) fd ((xSlot p).view.read (Elt F) (xstg m ρ c)) Finset.univ i = landed m ρ p i := by
  intro i hi
  obtain ⟨x, -, rfl⟩ := Finset.mem_map.mp hi
  rw [View.write_emb_of_mem _ _ (Finset.mem_univ x)]
  have h0 : (x 0).val < 64 := (x 0).isLt
  have hc := dev_lt c
  have hp := dev_lt p
  have e0 : (((bSlot c).view.emb x) 0).val = 64 * c.val + (x 0).val := by
    show 64 * c.val + 1 * (x 0).val = _; omega
  have e1 : (((bSlot c).view.emb x) 1).val = (x 1).val := by
    show 0 + 1 * (x 1).val = _; omega
  show xstg m ρ c ((xSlot p).view.emb x) = xstg m ρ (srcDev (((bSlot c).view.emb x) 0)) (ix2 (srcRow p (((bSlot c).view.emb x) 0)) (((bSlot c).view.emb x) 1))
  have hd : srcDev (((bSlot c).view.emb x) 0) = c := by
    apply Fin.ext; show (((bSlot c).view.emb x) 0).val / 64 = c.val; rw [e0]; omega
  rw [hd]
  congr 1
  funext a
  apply Fin.ext
  match a with
  | ⟨0, _⟩ =>
    show 64 * p.val + 1 * (x 0).val = 64 * p.val + (((bSlot c).view.emb x) 0).val % 64
    rw [e0]; omega
  | ⟨1, _⟩ =>
    show 0 + 1 * (x 1).val = (((bSlot c).view.emb x) 1).val
    rw [e1]; omega

/-! ## The schedule -/

/-- What device `p`'s signal hands device `c`: slot `c` of `p`'s communication buffer. -/
def barPay (c p : Dev nD) : sProp 𝕄 := iprop(∃ f, slotPts p c f)
/-- What a finished landing hands device `c`: slot `s` filled, and for its own block the source back. -/
def recvPay (c s : Dev nD) : sProp 𝕄 := iprop(slotPts c s (landed m ρ c) ∗ if s = c then xPts m ρ c c else iprop(emp))
/-- What a finished send hands device `c`: the block it was sent from. -/
def sendPay (c : Dev nD) (d : Fin 16) : sProp 𝕄 := xPts m ρ c (peer c d)

/-- The duties of a semaphore on device `c`. -/
def dutiesOf (c : Dev nD) : Kind → Finset (Dev nD)
  | .bar => Finset.univ.erase c
  | .send d => if d = 0 then ∅ else {0}
  | .recv _ => {0}
  | .other => ∅

/-- What a duty pays: one unit at the barrier, a block's credit elsewhere. -/
def amountOf : Kind → ℕ
  | .bar => 1
  | _ => N

/-- What the duty of device `p` hands device `c`. -/
def payOf (c p : Dev nD) : Kind → sProp 𝕄
  | .bar => barPay c p
  | .send d => sendPay m ρ c d
  | .recv s => recvPay m ρ c s
  | .other => iprop(emp)

omit [FloatOps F] in
/-- Every one of these can be a payload. -/
instance payOf_storable (c p : Dev nD) (k : Kind) : BI.Storable (upEmb : UEmb _ 𝕄) (payOf (F := F) m ρ c p k) := by
  cases k with
  | bar => show BI.Storable _ (barPay c p); unfold barPay; infer_instance
  | send d => show BI.Storable _ (sendPay m ρ c d); unfold sendPay; infer_instance
  | recv s => show BI.Storable _ (recvPay m ρ c s); unfold recvPay; split <;> infer_instance
  | other => show BI.Storable _ (iprop(emp) : sProp 𝕄); infer_instance

/-- One round: the barrier cell has a duty of one unit for every other device, a receive cell one duty of a
    block's credit, and a send cell that is used likewise. -/
def exRd : Rounds.Schedule (GSem nD τ sig) (Dev nD) 𝕄 where
  duties g r := if r = 0 ∧ g.1.2 = .tc then dutiesOf g.1.1 (kind g.2) else ∅
  unitless _ := False
  amount g _ _ := amountOf (kind g.2)
  payload g _ p := payOf m ρ g.1.1 p (kind g.2)
  amount_pos g _ _ _ := by
    show 0 < amountOf (kind g.2)
    cases kind g.2 with
    | bar => exact Nat.one_pos
    | _ => exact N_pos

omit [FloatOps F] in
/-- Every payload of the schedule can be stored. -/
instance exRd_storable (g : GSem nD τ sig) (r : ℕ) (d : Dev nD) :
    BI.Storable (upEmb : UEmb _ 𝕄) ((exRd (F := F) m ρ).payload g r d) := payOf_storable m ρ g.1.1 d (kind g.2)

omit [FloatOps F] in
/-- A barrier's duties are those of the other devices. -/
theorem duties_bar (c : Dev nD) : (exRd (F := F) m ρ).duties (barCell c) 0 = Finset.univ.erase c := by
  dsimp only [exRd]; rw [if_pos ⟨rfl, rfl⟩, kind_bar]; rfl
omit [FloatOps F] in
/-- A send semaphore that is used has one duty. -/
theorem duties_send (c : Dev nD) (d : Fin 16) (h : 0 < d.val) : (exRd (F := F) m ρ).duties (sendCell c d) 0 = {0} := by
  dsimp only [exRd]; rw [if_pos ⟨rfl, rfl⟩, kind_send]; exact if_neg (fun e => by rw [e] at h; exact absurd h (by decide))
omit [FloatOps F] in
/-- The send semaphore of distance zero has none: the own block is signalled at its receive semaphore alone. -/
theorem duties_send_zero (c : Dev nD) : (exRd (F := F) m ρ).duties (sendCell c 0) 0 = ∅ := by
  dsimp only [exRd]; rw [if_pos ⟨rfl, rfl⟩, kind_send]; decide +revert
omit [FloatOps F] in
/-- A receive semaphore has one duty. -/
theorem duties_recv (c s : Dev nD) : (exRd (F := F) m ρ).duties (recvCell c s) 0 = {0} := by
  dsimp only [exRd]; rw [if_pos ⟨rfl, rfl⟩, kind_recv]; rfl
omit [FloatOps F] in
/-- There are no duties after the first round. -/
theorem duties_later (g : GSem nD τ sig) : ∀ r, 1 ≤ r → (exRd (F := F) m ρ).duties g r = ∅ :=
  fun r hr => by dsimp only [exRd]; exact if_neg fun h => by omega

omit [FloatOps F] in
/-- A duty of a barrier pays one unit. -/
theorem amount_bar (c p : Dev nD) : (exRd (F := F) m ρ).amount (barCell c) 0 p = 1 := by dsimp only [exRd]; rw [kind_bar]; rfl
omit [FloatOps F] in
/-- A duty of a send semaphore pays a block's credit. -/
theorem amount_send (c : Dev nD) (d : Fin 16) (p : Dev nD) : (exRd (F := F) m ρ).amount (sendCell c d) 0 p = N := by
  dsimp only [exRd]; rw [kind_send]; rfl
omit [FloatOps F] in
/-- A duty of a receive semaphore pays a block's credit. -/
theorem amount_recv (c s p : Dev nD) : (exRd (F := F) m ρ).amount (recvCell c s) 0 p = N := by dsimp only [exRd]; rw [kind_recv]; rfl

omit [FloatOps F] in
/-- A barrier's round comes to fifteen units. -/
theorem expect_bar (c : Dev nD) : (exRd (F := F) m ρ).expect (barCell c) 0 = 15 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  decide
omit [FloatOps F] in
/-- The round of a send semaphore that is used comes to a block's credit. -/
theorem expect_send (c : Dev nD) (d : Fin 16) (h : 0 < d.val) : (exRd (F := F) m ρ).expect (sendCell c d) 0 = N := by
  unfold Schedule.expect Schedule.amountOf; rw [duties_send m ρ c d h, Finset.sum_singleton, amount_send]
omit [FloatOps F] in
/-- A receive semaphore's round comes to a block's credit. -/
theorem expect_recv (c s : Dev nD) : (exRd (F := F) m ρ).expect (recvCell c s) 0 = N := by
  unfold Schedule.expect Schedule.amountOf; rw [duties_recv, Finset.sum_singleton, amount_recv]

omit [FloatOps F] in
/-- A barrier's duty hands over a slot. -/
theorem payload_bar (c p : Dev nD) : (exRd (F := F) m ρ).payload (barCell c) 0 p = barPay c p := by dsimp only [exRd]; rw [kind_bar]; rfl
omit [FloatOps F] in
/-- A send semaphore's duty hands back the block sent. -/
theorem payload_send (c : Dev nD) (d : Fin 16) (p : Dev nD) : (exRd (F := F) m ρ).payload (sendCell c d) 0 p = sendPay m ρ c d := by
  dsimp only [exRd]; rw [kind_send]; rfl
omit [FloatOps F] in
/-- A receive semaphore's duty hands over the filled slot. -/
theorem payload_recv (c s p : Dev nD) : (exRd (F := F) m ρ).payload (recvCell c s) 0 p = recvPay m ρ c s := by
  dsimp only [exRd]; rw [kind_recv]; rfl

omit [FloatOps F] in
/-- A send semaphore's round hands back the block sent. -/
theorem rest_send (c : Dev nD) (d : Fin 16) (h : 0 < d.val) :
    bigSep ((exRd (F := F) m ρ).duties (sendCell c d) 0 \ ∅) (fun p => (exRd (F := F) m ρ).payload (sendCell c d) 0 p) = sendPay m ρ c d := by
  rw [Finset.sdiff_empty, duties_send m ρ c d h, bigSep_singleton, payload_send]
omit [FloatOps F] in
/-- A receive semaphore's round hands over the filled slot. -/
theorem rest_recv (c s : Dev nD) :
    bigSep ((exRd (F := F) m ρ).duties (recvCell c s) 0 \ ∅) (fun p => (exRd (F := F) m ρ).payload (recvCell c s) 0 p) = recvPay m ρ c s := by
  rw [Finset.sdiff_empty, duties_recv, bigSep_singleton, payload_recv]

/-- The other devices are those one to fifteen places on. -/
theorem others_eq (c : Dev nD) : Finset.univ.erase c = (rangeSet 16 1 16).map ⟨peer c, peer_inj c⟩ := by
  ext p
  rw [Finset.mem_erase, Finset.mem_map]
  constructor
  · rintro ⟨hp, -⟩
    refine ⟨dist c p, (Ring.mem_rangeSet _ _ _).mpr ⟨?_, (dist c p).isLt⟩, peer_dist c p⟩
    rcases Nat.eq_zero_or_pos (dist c p).val with h | h
    · exfalso; apply hp; rw [← peer_dist c p, show dist c p = 0 from Fin.ext h, peer_zero]
    · exact h
  · rintro ⟨d, hd, rfl⟩
    exact ⟨peer_ne c d ((Ring.mem_rangeSet _ _ _).mp hd).1, Finset.mem_univ _⟩

omit [FloatOps F] in
/-- The barrier's round hands device `c` its slot on every other device. -/
theorem rest_bar (c : Dev nD) :
    bigSep ((exRd (F := F) m ρ).duties (barCell c) 0 \ ∅) (fun p => (exRd (F := F) m ρ).payload (barCell c) 0 p)
      = bigSep (rangeSet 16 1 16) (fun d => barPay c (peer c d)) := by
  rw [Finset.sdiff_empty, duties_bar, others_eq, bigSep_map]
  exact bigSep_congr fun d _ => payload_bar m ρ c (peer c d)

/-! ## What each device owes, and the levels -/

/-- Device `c` owes a block's credit to its receive cell on every device from `k` places on. -/
def owedR (c : Dev nD) (k : ℕ) : CellTallies nD τ sig Unit := ∑ d ∈ rangeSet 16 k 16, tallyAt (recvCell (peer c d) c) () N
/-- and a unit to the barrier cell of every device from `k` places on. -/
def owedB (c : Dev nD) (k : ℕ) : CellTallies nD τ sig Unit := ∑ d ∈ rangeSet 16 k 16, tallyAt (barCell (peer c d)) () 1
/-- The debts before signal `k`; -/
def owed (c : Dev nD) (k : ℕ) : CellTallies nD τ sig Unit := owedR c 1 + owedB c k
/-- The debts at launch. -/
def O₀ (c : Dev nD) : CellTallies nD τ sig Unit := owed c 1

/-- The distances from `k` on are `k` and those after it. -/
theorem rangeSet_head {k : ℕ} (hk : k < 16) : rangeSet 16 k 16 = insert ⟨k, hk⟩ (rangeSet 16 (k + 1) 16) := by
  ext i; rw [Finset.mem_insert, Ring.mem_rangeSet, Ring.mem_rangeSet]
  have := i.isLt
  constructor
  · rintro ⟨h, -⟩
    rcases Nat.eq_or_lt_of_le h with h | h
    · exact .inl (Fin.ext h.symm)
    · exact .inr ⟨h, this⟩
  · rintro (h | h)
    · rw [h]; exact ⟨Nat.le_refl _, hk⟩
    · exact ⟨by omega, this⟩
/-- `k` is not after itself. -/
theorem not_mem_tail {k : ℕ} (hk : k < 16) : (⟨k, hk⟩ : Fin 16) ∉ rangeSet 16 (k + 1) 16 := fun h => by
  have := ((Ring.mem_rangeSet _ _ _).mp h).1; simp only at this; omega
/-- No distance is sixteen or more. -/
theorem rangeSet_done : rangeSet 16 16 16 = ∅ := by decide

/-- Before transfer `k` a device owes what it owes after it, and that transfer's credit. -/
theorem owedR_peel (c : Dev nD) {k : ℕ} (hk : k < 16) : owedR c k = owedR c (k + 1) + tallyAt (recvCell (peer c ⟨k, hk⟩) c) () N := by
  unfold owedR; rw [rangeSet_head hk, Finset.sum_insert (not_mem_tail hk), add_comm]
/-- Before signal `k` a device owes what it owes after it, and that signal's unit. -/
theorem owed_peel (c : Dev nD) {k : ℕ} (hk : k < 16) : owed c k = owed c (k + 1) + tallyAt (barCell (peer c ⟨k, hk⟩)) () 1 := by
  unfold owed owedB; rw [rangeSet_head hk, Finset.sum_insert (not_mem_tail hk), add_assoc, add_comm (tallyAt _ _ _)]
/-- After the last transfer nothing is owed. -/
theorem owedR_done (c : Dev nD) : owedR c 16 = 0 := by unfold owedR; rw [rangeSet_done, Finset.sum_empty]
/-- After the last signal the transfers are owed. -/
theorem owed_done (c : Dev nD) : owed c 16 = owedR c 1 := by unfold owed owedB; rw [rangeSet_done, Finset.sum_empty, add_zero]

/-- The cells with a level: those of the devices' main cores. -/
def L (g : GSem nD τ sig) : Finset Unit := if g.1.2 = .tc then {()} else ∅
/-- Barrier cells at level one, receive cells at two, everything else at zero. -/
def lv (g : GSem nD τ sig) (_ : Unit) : ℕ := match kind g.2 with | .bar => 1 | .recv _ => 2 | _ => 0

/-- No other cell has one. -/
theorem L_of_ne (g : GSem nD τ sig) (h : g.1.2 ≠ .tc) : L g = ∅ := if_neg h
/-- Each of these has one. -/
theorem L_tc (c : Dev nD) (sm : SemLoc sig) : L ((c : Thread nD τ), sm) = {()} := if_pos rfl
/-- A barrier is at level one, -/
theorem lv_bar (c : Dev nD) : lv (barCell c) () = 1 := by dsimp only [lv]; rw [kind_bar]
/-- a receive semaphore at level two, -/
theorem lv_recv (c s : Dev nD) : lv (recvCell c s) () = 2 := by dsimp only [lv]; rw [kind_recv]
/-- and a send semaphore at level zero. -/
theorem lv_send (c : Dev nD) (d : Fin 16) : lv (sendCell c d) () = 0 := by dsimp only [lv]; rw [kind_send]

/-- A positive entry of a sum of tallies is at one of their cells. -/
theorem sum_tally_pos {ι : Type} (s : Finset ι) (cell : ι → GSem nD τ sig) (n : ℕ) {g : GSem nD τ sig} {u : Unit}
    (h : 0 < (∑ d ∈ s, (tallyAt (cell d) () n : CellTallies nD τ sig Unit)) g u) : ∃ d ∈ s, g = cell d := by
  classical
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases hg : g = cell a ∧ u = ()
    · exact ⟨a, Finset.mem_insert_self _ _, hg.1⟩
    · rw [if_neg hg, Nat.zero_add] at h
      obtain ⟨d, hd, e⟩ := ih h
      exact ⟨d, Finset.mem_insert_of_mem hd, e⟩

/-- A transfer's debt is at a receive semaphore of this device's block. -/
theorem owedR_pos {c : Dev nD} {k : ℕ} {g : GSem nD τ sig} {u : Unit} (h : 0 < owedR c k g u) :
    ∃ d : Fin 16, g = recvCell (peer c d) c := by
  obtain ⟨d, -, e⟩ := sum_tally_pos _ _ _ h; exact ⟨d, e⟩

/-- Any debt is at such a receive semaphore or at a barrier. -/
theorem owed_pos {c : Dev nD} {k : ℕ} {g : GSem nD τ sig} {u : Unit} (h : 0 < owed c k g u) :
    (∃ d : Fin 16, g = recvCell (peer c d) c) ∨ ∃ d : Fin 16, g = barCell (peer c d) := by
  unfold owed at h
  rw [Pi.add_apply, Finsupp.add_apply] at h
  rcases Nat.eq_zero_or_pos (owedR c 1 g u) with h1 | h1
  · rw [h1, Nat.zero_add] at h
    obtain ⟨d, -, e⟩ := sum_tally_pos _ _ _ h; exact .inr ⟨d, e⟩
  · exact .inl (owedR_pos h1)

omit [FloatOps F] in
/-- A wait at level zero is allowed under the launch's debts and under none. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨d, rfl⟩ | ⟨d, rfl⟩ <;> exact Finset.mem_singleton_self _)
      (fun p hp => by rw [Finset.mem_singleton.mp hp]; exact hq.le)
      (fun g u hg => by
        rcases owed_pos hg with ⟨d, rfl⟩ | ⟨d, rfl⟩
        · rw [lv_recv]; decide
        · rw [lv_bar]; decide)
  · rw [MayWait_zero]; iintro -; iempintro

omit [FloatOps F] in
/-- At its barrier wait a device owes receive credits only, which are above the barrier. -/
theorem mayWait_bar (c : Dev nD) : (levAts L lv : sProp 𝕄) ⊢ MayWait (c : Thread nD τ) (.reg barS) () (owedR c 1) :=
  MayOwe.of_cut (L := L) (lev := lv) 1 (fun p hp => by rw [Finset.mem_singleton.mp hp, L_tc]; exact Finset.mem_singleton_self _)
    (fun g u hg => by obtain ⟨d, rfl⟩ := owedR_pos hg; exact Finset.mem_singleton_self _)
    (fun p hp => by rw [Finset.mem_singleton.mp hp]; exact (lv_bar c).le)
    (fun g u hg => by obtain ⟨d, rfl⟩ := owedR_pos hg; rw [lv_recv]; decide)

end Cert.Exchange
-- ==== Proof.Steps.lean ====
/-
# One rule per kind of step

The kernel is the same few steps over and over: a signal to the next peer, a transfer to the next peer, a wait for the
next block, a load of a slot, a wait for the next send. Each kind is stated here once, over the number of the step; the
body of the kernel (`Body.lean`) is their composition.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

abbrev 𝒱₀ : Variants := Variants.none

/-- The weakest precondition of a piece of the kernel on device `c`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-! ## Facts shared by all devices -/

/-- Every cell's invariant, and that every cell has reached round 0. -/
def records : sProp 𝕄 :=
  bigSep Finset.univ fun ck : Dev nD × CIx => iprop(cellInv ER (exRd m ρ) (K ck) (kcell ck) ∗ reached ER (kcell ck) 0)

/-- The records can be used any number of times. -/
instance records_persistent : BI.Persistent (records m ρ K) := by unfold records; infer_instance

/-- The records hold each cell's invariant, -/
theorem records_inv (ck : Dev nD × CIx) : records m ρ K ⊢ cellInv ER (exRd m ρ) (K ck) (kcell ck) := by
  unfold records
  iintro H
  ihave H' := (Rounds.bigSep_pick (Finset.mem_univ ck)) $$ H
  icases H' with ⟨⟨H1, -⟩, -⟩; iexact H1

/-- and that the cell has reached round 0. -/
theorem records_reached (ck : Dev nD × CIx) : records m ρ K ⊢ reached ER (kcell ck) 0 := by
  unfold records
  iintro H
  ihave H' := (Rounds.bigSep_pick (Finset.mem_univ ck)) $$ H
  icases H' with ⟨⟨-, H2⟩, -⟩; iexact H2

/-- The cells' names in the records. -/
abbrev κBar (c : Dev nD) : ℕ := K (c, .inl ())
abbrev κSend (c : Dev nD) (d : Fin 16) : ℕ := K (c, .inr (.inl d))
abbrev κRecv (c s : Dev nD) : ℕ := K (c, .inr (.inr s))

/-- What device `c` owes, whatever it has waited for. -/
def owesSome (c : Dev nD) (O : CellTallies nD τ sig Unit) : sProp 𝕄 := iprop(∃ W, owes (c : Thread nD τ) O W)

/-! ## Signals -/

/-- Before signal `k`: the debts, and for every peer from `k` on the token that pays its barrier and the slot it is given. -/
def sigState (c : Dev nD) (k : ℕ) : sProp 𝕄 :=
  iprop(records m ρ K ∗ owesSome c (owed c k)
    ∗ bigSep (rangeSet 16 k 16) fun d => iprop(dutyTok ER (barCell (peer c d)) 0 c ∗ barPay (F := F) (peer c d) c))

/-- The signal to the peer `k` places on. -/
theorem step_signal (c : Dev nD) (k : ℕ) (h0 : 0 < k) (hk : k < 16) {n : Dev nD} (hn : n = peer c ⟨k, hk⟩) {q : Sem sig} (hq : q = barS)
    {amt : ℕ} (ha : 1 = amt) {α : Type} {Q : α → sProp 𝕄} {k' : PUnit → Prog (TpuEff nD τ sig (Elt F) Λ₀ .tc) α} :
    sigState m ρ K c k ⊢ iprop((sigState m ρ K c (k + 1) -∗ WP c (k' ⟨⟩) Q) -∗ WP c (.op (.semSignal (n : Thread nD τ) q amt) k') Q) := by
  subst hn hq ha
  unfold sigState owesSome
  rw [Ring.bigSep_rangeSet_head (Φ := fun d => iprop(dutyTok ER (barCell (peer c d)) 0 c ∗ barPay (F := F) (peer c d) c)) hk hk]
  iintro ⟨#HR, ⟨%W, HO⟩, ⟨⟨Ht, Hp⟩, Hrest⟩⟩ Hk
  iapply (Rounds.wp_signal 𝒱₀ ER (exRd m ρ) (c : Thread nD τ) none (dst := (peer c ⟨k, hk⟩ : Thread nD τ)) (κ := κBar K (peer c ⟨k, hk⟩))
      (d := c) (by rw [duties_bar]; exact Finset.mem_erase.mpr ⟨(peer_ne c ⟨k, hk⟩ h0).symm, Finset.mem_univ _⟩)
      (amount_bar m ρ (peer c ⟨k, hk⟩) c) () (owed c (k + 1)) (owed_peel c hk)) $$ [HO Ht Hp]
  · isplitr; · iapply (records_inv m ρ K (peer c ⟨k, hk⟩, .inl ())); iexact HR
    isplitl [HO]; · iexact HO
    isplitl [Ht]; · iexact Ht
    isplitl [Hp]; · rw [payload_bar]; iexact Hp
    iapply (records_reached m ρ K (peer c ⟨k, hk⟩, .inl ())); iexact HR
  iintro HO
  iapply Hk
  isplitr; · iexact HR
  isplitl [HO]; · iexists W; iexact HO
  iexact Hrest

/-! ## The barrier wait -/

/-- What the barrier wait needs. -/
def barPre (c : Dev nD) : sProp 𝕄 :=
  iprop(records m ρ K ∗ owesSome c (owedR c 1) ∗ cred (tallyAt (barCell c) () 15) ∗ atPos ER (barCell c) 0 ∅ 0 ∗ levAts L lv)
/-- What it leaves: the barrier cell closed, and this device's slot on every other device. -/
def barPost (c : Dev nD) : sProp 𝕄 :=
  iprop(owesSome c (owedR c 1) ∗ semVal (barCell c) 0 ∗ bigSep (rangeSet 16 1 16) fun d => barPay (F := F) c (peer c d))

/-- The wait for the signals of all fifteen other devices. -/
theorem step_barrier (c : Dev nD) {q : Sem sig} (hq : q = barS) {amt : ℕ} (ha : 15 = amt)
    {α : Type} {Q : α → sProp 𝕄} {k' : PUnit → Prog (TpuEff nD τ sig (Elt F) Λ₀ .tc) α} :
    barPre m ρ K c ⊢ iprop((barPost c -∗ WP c (k' ⟨⟩) Q) -∗ WP c (.op (.semWait q amt) k') Q) := by
  subst hq ha
  unfold barPre barPost owesSome
  iintro ⟨#HR, ⟨%W, HO⟩, Hc, Hat, #Hlev⟩ Hk
  iapply (Rounds.wp_wait_rest_token 𝒱₀ ER (exRd m ρ) (c : Thread nD τ) none (κ := κBar K c)
      (wpE_semWait_eq 𝒱₀ (c : Thread nD τ) none Set.univ) (Set.mem_univ _) () (O := owedR c 1) (W := W) (R := 0) (m := 0) (T := ∅)
      (by rw [expect_bar])) $$ [HO Hc Hat]
  · isplitr; · iapply (records_inv m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exRd m ρ) (Set.mem_univ (κBar K c)) (fun h => h) (R := 0 + 1) (duties_later m ρ (barCell c))) $$ [Hat] with Hz
  · isplitr; · iapply (records_inv m ρ K (c, .inl ())); iexact HR
    iexact Hat
  iapply Hk
  isplitl [HO]; · iexists _; iexact HO
  isplitl [Hz]; · iexact Hz
  iexact Hp

/-! ## The local copy -/

/-- What the local copy needs. -/
def copyPre (c : Dev nD) : sProp 𝕄 :=
  iprop(records m ρ K ∗ xPts m ρ c c ∗ barPay (F := F) c c ∗ dutyTok ER (recvCell c c) 0 0)

/-- The copy of a device's own block into its own slot. -/
theorem step_copy (c : Dev nD) {offx offb : Fin S1024x64.rank → ℕ} (hx : offx = ![64 * c.val, 0]) (hb : offb = ![64 * c.val, 0])
    {ix ib} {q : DmaSem sig} (hq : q = recvS c)
    {hsrc : (xM.slice (Rect.unit (s := S1024x64) offx S64x64.size ix) (fun _ => rfl) : Memref sig .tc .vmem S64x64 .f32).view.WordExact}
    {hdst : (bM.slice (Rect.unit (s := S1024x64) offb S64x64.size ib) (fun _ => rfl) : Memref sig .tc .vmem S64x64 .f32).view.WordExact}
    {hsem} {α : Type} {Q : α → sProp 𝕄} {k' : PUnit → Prog (TpuEff nD τ sig (Elt F) Λ₀ .tc) α} :
    copyPre m ρ K c ⊢ iprop((cred (tallyAt (recvCell c c) () N) -∗ WP c (k' ⟨⟩) Q)
      -∗ WP c (.op (.enqueueDma (xM.slice (Rect.unit (s := S1024x64) offx S64x64.size ix) (fun _ => rfl))
          (.here (bM.slice (Rect.unit (s := S1024x64) offb S64x64.size ib) (fun _ => rfl))) (.dma q) hsrc hdst hsem) k') Q) := by
  subst hx hb hq
  unfold copyPre barPay
  iintro ⟨#HR, Hx, ⟨%fd, Hb⟩, Ht⟩ Hk
  unfold xPts slotPts
  iapply (Rounds.wp_copy_pointsTo 𝒱₀ ER (exRd m ρ) (c : Thread nD τ) none (κ := κRecv K c c) (r := 0) (d := (0 : Dev nD)) (fs := xstg m ρ c) (fd := fd)
      (src := xSlot c) (dst := bSlot c)
      (by rw [duties_recv]; exact Finset.mem_singleton_self _) () N rfl (amount_recv m ρ c c 0)
      (by
        rw [payload_recv]; unfold recvPay xPts slotPts; rw [if_pos rfl]
        exact sep_mono_left (Entails.of_eq (pointsTo_congr (landed_write m ρ c c fd))))) $$ [Hx Hb Ht]
  · isplitr; · iapply (records_inv m ρ K (c, .inr (.inr c))); iexact HR
    isplitl [Hx]; · iexact Hx
    isplitl [Hb]; · iexact Hb
    isplitl [Ht]; · iexact Ht
    iapply (records_reached m ρ K (c, .inr (.inr c))); iexact HR
  iexact Hk

/-! ## Transfers -/

/-- What the transfer to the peer `d` places on needs. -/
def sendRes (c : Dev nD) (d : Fin 16) : sProp 𝕄 :=
  iprop(xPts m ρ c (peer c d) ∗ barPay (F := F) c (peer c d) ∗ dutyTok ER (sendCell c d) 0 0 ∗ dutyTok ER (recvCell (peer c d) c) 0 0)

/-- Before transfer `k`: the debts, what the transfers from `k` on need, and the credits of the earlier ones. -/
def sendState (c : Dev nD) (k : ℕ) : sProp 𝕄 :=
  iprop(records m ρ K ∗ owesSome c (owedR c k) ∗ bigSep (rangeSet 16 k 16) (sendRes m ρ c)
    ∗ bigSep (rangeSet 16 1 k) fun d => cred (tallyAt (sendCell c d) () N))

/-- The transfer of block `peer c k` to that peer. -/
theorem step_send (c : Dev nD) (k : ℕ) (h0 : 0 < k) (hk : k < 16) {n : Dev nD} (hn : n = peer c ⟨k, hk⟩)
    {offx offb : Fin S1024x64.rank → ℕ} (hx : offx = ![64 * (peer c ⟨k, hk⟩).val, 0]) (hb : offb = ![64 * c.val, 0])
    {ix ib} {qs qr : DmaSem sig} (hqs : qs = sendS ⟨k, hk⟩) (hqr : qr = recvS c)
    {hsrc : (xM.slice (Rect.unit (s := S1024x64) offx S64x64.size ix) (fun _ => rfl) : Memref sig .tc .vmem S64x64 .f32).view.WordExact}
    {hdst : (bM.slice (Rect.unit (s := S1024x64) offb S64x64.size ib) (fun _ => rfl) : Memref sig .tc .vmem S64x64 .f32).view.WordExact}
    {hsc : (bM.slice (Rect.unit (s := S1024x64) offb S64x64.size ib) (fun _ => rfl) : Memref sig (Dev.tc n : Thread nD τ).2.kind .vmem S64x64 .f32).view.ref.isScScratch = false}
    {hsem} {α : Type} {Q : α → sProp 𝕄} {k' : PUnit → Prog (TpuEff nD τ sig (Elt F) Λ₀ .tc) α} :
    sendState m ρ K c k ⊢ iprop((sendState m ρ K c (k + 1) -∗ WP c (k' ⟨⟩) Q)
      -∗ WP c (.op (.enqueueDma (xM.slice (Rect.unit (s := S1024x64) offx S64x64.size ix) (fun _ => rfl))
          (.remote (Dev.tc n : Thread nD τ) (bM.slice (Rect.unit (s := S1024x64) offb S64x64.size ib) (fun _ => rfl)) (.dma qs) hsc) (.dma qr) hsrc hdst hsem) k') Q) := by
  subst hn hx hb hqs hqr
  unfold sendState owesSome
  rw [Ring.bigSep_rangeSet_head (Φ := sendRes m ρ c) hk hk,
    Ring.bigSep_rangeSet_last (lo := 1) (hi := k + 1) (Φ := fun d => (cred (tallyAt (sendCell c d) () N) : sProp 𝕄)) (by omega) (by omega)]
  iintro ⟨#HR, ⟨%W, HO⟩, ⟨Hres, Hrest⟩, Hcr⟩ Hk
  unfold sendRes barPay
  icases Hres with ⟨Hx, ⟨%fd, Hb⟩, Hts, Htr⟩
  unfold xPts slotPts
  iapply (Rounds.wp_send_pointsTo 𝒱₀ ER (exRd m ρ) (c : Thread nD τ) none (c' := (peer c ⟨k, hk⟩ : Thread nD τ)) (κ₁ := κSend K c ⟨k, hk⟩) (κ₂ := κRecv K (peer c ⟨k, hk⟩) c)
      (src := xSlot (peer c ⟨k, hk⟩)) (dst := bSlot c) (fs := xstg m ρ c)
      (r₁ := 0) (r₂ := 0) (d₁ := (0 : Dev nD)) (d₂ := (0 : Dev nD)) (fd := fd)
      (by rw [duties_send m ρ c ⟨k, hk⟩ h0]; exact Finset.mem_singleton_self _) (by rw [duties_recv]; exact Finset.mem_singleton_self _)
      () () N rfl (amount_send m ρ c ⟨k, hk⟩ 0) (amount_recv m ρ (peer c ⟨k, hk⟩) c 0) (owedR c (k + 1)) (owedR_peel c hk) (W := W)
      (by rw [payload_send]; exact BI.Entails.refl _)
      (by
        rw [payload_recv]; unfold recvPay slotPts; rw [if_neg (peer_ne c ⟨k, hk⟩ h0).symm]
        refine (Entails.of_eq (pointsTo_congr (landed_write m ρ c (peer c ⟨k, hk⟩) fd))).trans ?_
        exact (sep_emp (PROP := sProp 𝕄)).2)) $$ [Hx Hb HO Hts Htr]
  · isplitr; · iapply (records_inv m ρ K (c, .inr (.inl ⟨k, hk⟩))); iexact HR
    isplitr; · iapply (records_inv m ρ K (peer c ⟨k, hk⟩, .inr (.inr c))); iexact HR
    isplitl [Hx]; · iexact Hx
    isplitl [Hb]; · iexact Hb
    isplitl [HO]; · iexact HO
    isplitl [Hts]; · iexact Hts
    isplitr; · iapply (records_reached m ρ K (c, .inr (.inl ⟨k, hk⟩))); iexact HR
    isplitl [Htr]; · iexact Htr
    iapply (records_reached m ρ K (peer c ⟨k, hk⟩, .inr (.inr c))); iexact HR
  iintro ⟨Hc, HO⟩
  iapply Hk
  isplitr; · iexact HR
  isplitl [HO]; · iexists W; iexact HO
  isplitl [Hrest]; · iexact Hrest
  isplitl [Hc]; · iexact Hc
  iexact Hcr

/-! ## Waits on the device's own cells -/

/-- A wait for the one duty of an own cell, owing nothing: the cell is closed and its payload is the device's. -/
theorem step_wait_cell (c : Dev nD) (o : OIx) {q : DmaSem sig} (hq : csem (.inr o) = .dma q) {P : sProp 𝕄}
    (he : (exRd (F := F) m ρ).expect (kcell (c, .inr o)) 0 = N)
    (hp : bigSep ((exRd (F := F) m ρ).duties (kcell (c, .inr o)) 0 \ ∅) (fun p => (exRd (F := F) m ρ).payload (kcell (c, .inr o)) 0 p) = P)
    {src dst : Memref sig .tc .vmem S64x64 .f32} {hsrc : src.view.WordExact} {hdst : dst.view.WordExact} (hN : dst.view.dmaCredit = N)
    {α : Type} {Q : α → sProp 𝕄} {k' : PUnit → Prog (TpuEff nD τ sig (Elt F) Λ₀ .tc) α} :
    iprop(records m ρ K ∗ owesSome c 0 ∗ cred (tallyAt (kcell (c, .inr o)) () N) ∗ atPos ER (kcell (c, .inr o)) 0 ∅ 0)
      ⊢ iprop(((owesSome c 0 ∗ semVal (kcell (c, .inr o)) 0 ∗ P) -∗ WP c (k' ⟨⟩) Q)
        -∗ WP c (.op (.waitDma2 q src dst hsrc hdst) k') Q) := by
  subst hp
  rw [← hN] at he ⊢
  have hc : kcell (c, .inr o) = ((c : Thread nD τ), SemLoc.dma q) := by show ((c : Thread nD τ), csem (.inr o)) = _; rw [hq]
  unfold owesSome
  iintro ⟨#HR, ⟨%W, HO⟩, Hc, Hat⟩ Hk
  ihave #HI := (records_inv m ρ K (c, .inr o)) $$ HR
  rw [hc] at he ⊢
  iapply (Rounds.wp_wait_rest_token 𝒱₀ ER (exRd m ρ) (c : Thread nD τ) none (κ := K (c, .inr o))
      (wpE_waitDma2_eq 𝒱₀ (c : Thread nD τ) none Set.univ) (Set.mem_univ _) () (O := 0) (W := W) (R := 0) (m := 0) (T := ∅)
      (by rw [Nat.zero_add, he])) $$ [HO Hc Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (exRd m ρ) (Set.mem_univ (K (c, .inr o))) (fun h => h) (R := 0 + 1) (duties_later m ρ _)) $$ [Hat] with Hz
  · isplitr; · iexact HI
    iexact Hat
  iapply Hk
  isplitl [HO]; · iexists _; iexact HO
  isplitl [Hz]; · iexact Hz
  iexact Hpay

/-- Before the wait for block `k`: the credits and positions of the blocks from `k` on, and the earlier blocks landed. -/
def recvState (c : Dev nD) (k : ℕ) : sProp 𝕄 :=
  iprop(records m ρ K ∗ owesSome c 0
    ∗ bigSep (rangeSet 16 k 16) (fun s => iprop(cred (tallyAt (recvCell c s) () N) ∗ atPos ER (recvCell c s) 0 ∅ 0))
    ∗ bigSep (rangeSet 16 0 k) (fun s => iprop(semVal (recvCell c s) 0 ∗ recvPay m ρ c s)))

/-- The wait for the block of device `k`. -/
theorem step_recv (c : Dev nD) (k : ℕ) (hk : k < 16) {q : DmaSem sig} (hq : q = recvS ⟨k, hk⟩)
    {src dst : Memref sig .tc .vmem S64x64 .f32} {hsrc : src.view.WordExact} {hdst : dst.view.WordExact} (hN : dst.view.dmaCredit = N)
    {α : Type} {Q : α → sProp 𝕄} {k' : PUnit → Prog (TpuEff nD τ sig (Elt F) Λ₀ .tc) α} :
    recvState m ρ K c k ⊢ iprop((recvState m ρ K c (k + 1) -∗ WP c (k' ⟨⟩) Q) -∗ WP c (.op (.waitDma2 q src dst hsrc hdst) k') Q) := by
  subst hq
  unfold recvState
  rw [Ring.bigSep_rangeSet_head (Φ := fun s => (iprop(cred (tallyAt (recvCell c s) () N) ∗ atPos ER (recvCell c s) 0 ∅ 0) : sProp 𝕄)) hk hk,
    Ring.bigSep_rangeSet_last (lo := 0) (hi := k + 1) (Φ := fun s => iprop(semVal (recvCell c s) 0 ∗ recvPay m ρ c s)) (by omega) (by show k + 1 ≤ 16; omega)]
  iintro ⟨#HR, HO, ⟨⟨Hc, Hat⟩, Hrest⟩, Hdone⟩ Hk
  iapply (step_wait_cell m ρ K c (.inr ⟨k, hk⟩) rfl (expect_recv m ρ c ⟨k, hk⟩) (rest_recv m ρ c ⟨k, hk⟩) hN) $$ [HO Hc Hat]
  · isplitr; · iexact HR
    isplitl [HO]; · iexact HO
    isplitl [Hc]; · iexact Hc
    iexact Hat
  iintro ⟨HO, Hz, Hp⟩
  iapply Hk
  isplitr; · iexact HR
  isplitl [HO]; · iexact HO
  isplitl [Hrest]; · iexact Hrest
  isplitl [Hz Hp]
  · isplitl [Hz]; · iexact Hz
    iexact Hp
  iexact Hdone

/-- Before the wait for send `k`: the credits and positions of the sends from `k` on, and the blocks of the earlier ones back. -/
def drainState (c : Dev nD) (k : ℕ) : sProp 𝕄 :=
  iprop(records m ρ K ∗ owesSome c 0
    ∗ bigSep (rangeSet 16 k 16) (fun d => iprop(cred (tallyAt (sendCell c d) () N) ∗ atPos ER (sendCell c d) 0 ∅ 0))
    ∗ bigSep (rangeSet 16 1 k) (fun d => iprop(semVal (sendCell c d) 0 ∗ xPts m ρ c (peer c d))))

/-- The wait for the send to the peer `k` places on. -/
theorem step_drain (c : Dev nD) (k : ℕ) (h0 : 0 < k) (hk : k < 16) {q : DmaSem sig} (hq : q = sendS ⟨k, hk⟩)
    {src dst : Memref sig .tc .vmem S64x64 .f32} {hsrc : src.view.WordExact} {hdst : dst.view.WordExact} (hN : dst.view.dmaCredit = N)
    {α : Type} {Q : α → sProp 𝕄} {k' : PUnit → Prog (TpuEff nD τ sig (Elt F) Λ₀ .tc) α} :
    drainState m ρ K c k ⊢ iprop((drainState m ρ K c (k + 1) -∗ WP c (k' ⟨⟩) Q) -∗ WP c (.op (.waitDma2 q src dst hsrc hdst) k') Q) := by
  subst hq
  have hp := rest_send m ρ c ⟨k, hk⟩ h0
  unfold sendPay at hp
  unfold drainState
  rw [Ring.bigSep_rangeSet_head (Φ := fun d => (iprop(cred (tallyAt (sendCell c d) () N) ∗ atPos ER (sendCell c d) 0 ∅ 0) : sProp 𝕄)) hk hk,
    Ring.bigSep_rangeSet_last (lo := 1) (hi := k + 1) (Φ := fun d => iprop(semVal (sendCell c d) 0 ∗ xPts m ρ c (peer c d))) (by omega) (by omega)]
  iintro ⟨#HR, HO, ⟨⟨Hc, Hat⟩, Hrest⟩, Hdone⟩ Hk
  iapply (step_wait_cell m ρ K c (.inl ⟨k, hk⟩) rfl (expect_send m ρ c ⟨k, hk⟩ h0) hp hN) $$ [HO Hc Hat]
  · isplitr; · iexact HR
    isplitl [HO]; · iexact HO
    isplitl [Hc]; · iexact Hc
    iexact Hat
  iintro ⟨HO, Hz, Hp⟩
  iapply Hk
  isplitr; · iexact HR
  isplitl [HO]; · iexact HO
  isplitl [Hrest]; · iexact Hrest
  isplitl [Hz Hp]
  · isplitl [Hz]; · iexact Hz
    iexact Hp
  iexact Hdone

/-! ## Loads of landed slots -/

/-- What slot `s` of device `c` holds once it has landed. -/
def slotVal (c s : Dev nD) : Vec F S64x64 .f32 := (bSlot s).view.read (Elt F) (landed m ρ c)

/-- The load of slot `s`, which has landed. -/
theorem step_slot (c : Dev nD) (k s : ℕ) (hs : s < 16) (hk : s < k) {off : Fin S1024x64.rank → ℕ} (ho : off = ![64 * s, 0]) {inb}
    {hl : bM.view.LoadsAt (Rect.unit (s := S1024x64) off S64x64.size inb).toLoadRect}
    {α : Type} {Q : α → sProp 𝕄} {k' : Vec F S64x64 .f32 → Prog (TpuEff nD τ sig (Elt F) Λ₀ .tc) α} :
    recvState m ρ K c k ⊢ iprop((recvState m ρ K c k -∗ WP c (k' (slotVal m ρ c ⟨s, hs⟩)) Q)
      -∗ WP c (.op (.load bM (Rect.unit (s := S1024x64) off S64x64.size inb).toLoadRect hl) k') Q) := by
  subst ho
  unfold recvState
  have hmem : (⟨s, hs⟩ : Fin 16) ∈ rangeSet 16 0 k := (Ring.mem_rangeSet _ _ _).mpr ⟨Nat.zero_le _, hk⟩
  have e : bigSep (rangeSet 16 0 k) (fun s => iprop(semVal (recvCell c s) 0 ∗ recvPay m ρ c s))
      = iprop((semVal (recvCell c ⟨s, hs⟩) 0 ∗ recvPay m ρ c ⟨s, hs⟩)
        ∗ bigSep ((rangeSet 16 0 k).erase ⟨s, hs⟩) (fun s => iprop(semVal (recvCell c s) 0 ∗ recvPay m ρ c s))) := bigSep_erase hmem
  rw [e]
  unfold recvPay slotPts
  iintro ⟨#HR, HO, Hrest, ⟨⟨Hz, Hs, Hx⟩, Hdone⟩⟩ Hk
  iapply (wp_load_rect 𝒱₀ (c : Thread nD τ) none Set.univ (m := bM) (r := slotR ⟨s, hs⟩) (Finset.Subset.refl _)) $$ Hs
  iintro Hs
  iapply Hk
  isplitr; · iexact HR
  isplitl [HO]; · iexact HO
  isplitl [Hrest]; · iexact Hrest
  isplitl [Hz Hs Hx]
  · isplitl [Hz]; · iexact Hz
    isplitl [Hs]; · iexact Hs
    iexact Hx
  iexact Hdone

end Cert.Exchange
-- ==== Proof.Parts.lean ====
/-
# The parts of the kernel

The kernel is generated as a chain of parts. Each is run here by the rules of `Steps.lean`, from the state before it to
the state after it.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## Offsets as the steps spell them -/

/-- The offset of the block for the peer `r + 1` places on. -/
theorem off3_peer (c : Dev nD) (r : Fin 15) {d : Fin 16} (hd : d.val = r.val + 1) :
    k0_off3 c (BitVec.ofNat 32 (1 + r.val)) = ![64 * (peer c d).val, 0] := by
  rw [k0_off3_eq]
  have e : (c.val + r.val + 1) % 16 = (peer c d).val := by show _ = (c.val + d.val) % 16; rw [hd, Nat.add_assoc]
  rw [e]

/-- A program that has returned has run. -/
theorem WP_ret {α : Type} (c : Dev nD) (a : α) {Q : α → sProp 𝕄} : Q a ⊢ WP c (Prog.ret a) Q := by
  unfold WP; rw [wp_ret]; iintro H; imodintro; iexact H

/-- The barrier's semaphore, as the kernel names it. -/
theorem barS_eq : (SemArray.scalar (sig.barrier 0 rfl) : Sems sig S_).sem = barS := rfl

/-! ## The signals and the barrier -/

/-- Signals 1 to 5. -/
theorem part1 (c : Dev nD) {Φ : _ → sProp 𝕄} :
    sigState m ρ K c 1 ⊢ iprop((∀ v2 v24 x, sigState m ρ K c 6 -∗ Φ ⟨c, v2, SemArray.scalar (sig.barrier 0 rfl), v24, x⟩)
      -∗ WP c (k0_part1 (F := F) xM (Memref.isWhole_whole _) wM (Memref.isWhole_whole _) oM (Memref.isWhole_whole _) bM (Memref.isWhole_whole _) cc0_scratch1 cc0_scratch2) Φ) := by
  simp only [k0_part1_eq_skeleton]; unfold k0_part1_skel
  simp only [semSignalWord, semWaitWord, Prog.lift, Prog.bind_op, Prog.bind_ret, Prog.pure_eq_ret, wp_deviceId]
  iintro Hs Hk
  iapply (step_signal m ρ K c 1 (by decide) (by decide) (Fin.ext (a := ⟨k0_dev1 c, k0_dev1_lt c⟩) (k0_dev1_eq c)) barS_eq rfl) $$ Hs; iintro Hs
  iapply (step_signal m ρ K c 2 (by decide) (by decide) (Fin.ext (a := ⟨k0_dev2 c, k0_dev2_lt c⟩) (k0_dev2_eq c)) barS_eq rfl) $$ Hs; iintro Hs
  iapply (step_signal m ρ K c 3 (by decide) (by decide) (Fin.ext (a := ⟨k0_dev3 c, k0_dev3_lt c⟩) (k0_dev3_eq c)) barS_eq rfl) $$ Hs; iintro Hs
  iapply (step_signal m ρ K c 4 (by decide) (by decide) (Fin.ext (a := ⟨k0_dev4 c, k0_dev4_lt c⟩) (k0_dev4_eq c)) barS_eq rfl) $$ Hs; iintro Hs
  iapply (step_signal m ρ K c 5 (by decide) (by decide) (Fin.ext (a := ⟨k0_dev5 c, k0_dev5_lt c⟩) (k0_dev5_eq c)) barS_eq rfl) $$ Hs; iintro Hs
  iapply WP_ret
  iapply Hk; iexact Hs

/-- Signals 6 to 11. -/
theorem part2 (c : Dev nD) (v2 v24 x : BitVec 32) {Φ : _ → sProp 𝕄} :
    sigState m ρ K c 6 ⊢ iprop((∀ v48 y, sigState m ρ K c 12 -∗ Φ ⟨v48, y⟩)
      -∗ WP c (k0_part2 (F := F) xM (Memref.isWhole_whole _) wM (Memref.isWhole_whole _) oM (Memref.isWhole_whole _) bM (Memref.isWhole_whole _) cc0_scratch1 cc0_scratch2 c v2 (SemArray.scalar (sig.barrier 0 rfl)) v24 x) Φ) := by
  simp only [k0_part2_eq_skeleton]; unfold k0_part2_skel
  simp only [semSignalWord, semWaitWord, Prog.lift, Prog.bind_op, Prog.bind_ret, Prog.pure_eq_ret, wp_deviceId]
  iintro Hs Hk
  iapply (step_signal m ρ K c 6 (by decide) (by decide) (Fin.ext (a := ⟨k0_dev6 c, k0_dev6_lt c⟩) (k0_dev6_eq c)) barS_eq rfl) $$ Hs; iintro Hs
  iapply (step_signal m ρ K c 7 (by decide) (by decide) (Fin.ext (a := ⟨k0_dev7 c, k0_dev7_lt c⟩) (k0_dev7_eq c)) barS_eq rfl) $$ Hs; iintro Hs
  iapply (step_signal m ρ K c 8 (by decide) (by decide) (Fin.ext (a := ⟨k0_dev8 c, k0_dev8_lt c⟩) (k0_dev8_eq c)) barS_eq rfl) $$ Hs; iintro Hs
  iapply (step_signal m ρ K c 9 (by decide) (by decide) (Fin.ext (a := ⟨k0_dev9 c, k0_dev9_lt c⟩) (k0_dev9_eq c)) barS_eq rfl) $$ Hs; iintro Hs
  iapply (step_signal m ρ K c 10 (by decide) (by decide) (Fin.ext (a := ⟨k0_dev10 c, k0_dev10_lt c⟩) (k0_dev10_eq c)) barS_eq rfl) $$ Hs; iintro Hs
  iapply (step_signal m ρ K c 11 (by decide) (by decide) (Fin.ext (a := ⟨k0_dev11 c, k0_dev11_lt c⟩) (k0_dev11_eq c)) barS_eq rfl) $$ Hs; iintro Hs
  iapply WP_ret
  iapply Hk; iexact Hs

/-- After the last signal only receive credits are owed. -/
theorem sigState_done (c : Dev nD) : sigState m ρ K c 16 ⊢ iprop(records m ρ K ∗ owesSome (F := F) c (owedR c 1)) := by
  unfold sigState; rw [owed_done]
  iintro ⟨HR, HO, -⟩; isplitl [HR] <;> iassumption

/-- Signals 12 to 15, the barrier, the local copy. -/
theorem part3 (c : Dev nD) (v2 v48 x : BitVec 32) {Φ : _ → sProp 𝕄} :
    iprop(sigState m ρ K c 12 ∗ (cred (tallyAt (barCell c) () 15) ∗ atPos ER (barCell c) 0 ∅ 0 ∗ levAts L lv)
        ∗ (xPts m ρ c c ∗ barPay (F := F) c c ∗ dutyTok ER (recvCell c c) 0 0))
      ⊢ iprop((∀ v71, (records m ρ K ∗ barPost c ∗ cred (tallyAt (recvCell c c) () N)) -∗ Φ v71)
      -∗ WP c (k0_part3 (F := F) xM (Memref.isWhole_whole _) wM (Memref.isWhole_whole _) oM (Memref.isWhole_whole _) bM (Memref.isWhole_whole _) cc0_scratch1 cc0_scratch2 c v2 (SemArray.scalar (sig.barrier 0 rfl)) v48 x) Φ) := by
  simp only [k0_part3_eq_skeleton]; unfold k0_part3_skel
  simp only [semSignalWord, semWaitWord, Prog.lift, Prog.bind_op, Prog.bind_ret, Prog.pure_eq_ret, wp_deviceId]
  iintro ⟨Hs, ⟨Hc, Hat, Hlev⟩, ⟨Hx, Hb, Ht⟩⟩ Hk
  iapply (step_signal m ρ K c 12 (by decide) (by decide) (Fin.ext (a := ⟨k0_dev12 c, k0_dev12_lt c⟩) (k0_dev12_eq c)) barS_eq rfl) $$ Hs; iintro Hs
  iapply (step_signal m ρ K c 13 (by decide) (by decide) (Fin.ext (a := ⟨k0_dev13 c, k0_dev13_lt c⟩) (k0_dev13_eq c)) barS_eq rfl) $$ Hs; iintro Hs
  iapply (step_signal m ρ K c 14 (by decide) (by decide) (Fin.ext (a := ⟨k0_dev14 c, k0_dev14_lt c⟩) (k0_dev14_eq c)) barS_eq rfl) $$ Hs; iintro Hs
  iapply (step_signal m ρ K c 15 (by decide) (by decide) (Fin.ext (a := ⟨k0_dev15 c, k0_dev15_lt c⟩) (k0_dev15_eq c)) barS_eq rfl) $$ Hs; iintro Hs
  ihave H := (sigState_done m ρ K c) $$ Hs
  icases H with ⟨#HR, HO⟩
  iapply (step_barrier m ρ K c rfl rfl) $$ [HO Hc Hat Hlev]
  · unfold barPre
    isplitr; · iexact HR
    isplitl [HO]; · iexact HO
    isplitl [Hc]; · iexact Hc
    isplitl [Hat] <;> iassumption
  iintro Hbar
  iapply (step_copy m ρ K c (k0_off2_eq c) (k0_off2_eq c) (recv_sem (k0_off1_eq c) _)) $$ [Hx Hb Ht]
  · unfold copyPre
    isplitr; · iexact HR
    isplitl [Hx]; · iexact Hx
    isplitl [Hb] <;> iassumption
  iintro Hc
  iapply WP_ret
  iapply Hk
  isplitr; · iexact HR
  isplitl [Hbar] <;> iassumption

/-! ## The transfers -/

/-- Transfers 1 to 3. -/
theorem part4 (c : Dev nD) (v2 v71 : BitVec 32) {Φ : _ → sProp 𝕄} :
    sendState m ρ K c 1 ⊢ iprop((∀ v106 y, sendState m ρ K c 4 -∗ Φ ⟨v106, y⟩)
      -∗ WP c (k0_part4 (F := F) xM (Memref.isWhole_whole _) wM (Memref.isWhole_whole _) oM (Memref.isWhole_whole _) bM (Memref.isWhole_whole _) cc0_scratch1 cc0_scratch2 c v2 v71) Φ) := by
  simp only [k0_part4_eq_skeleton]; unfold k0_part4_skel
  simp only [semSignalWord, semWaitWord, Prog.lift, Prog.bind_op, Prog.bind_ret, Prog.pure_eq_ret, wp_deviceId]
  iintro Hs Hk
  iapply (step_send m ρ K c 1 (by decide) (by decide) (Fin.ext (a := ⟨k0_dev16 c, k0_dev16_lt c⟩) (k0_dev16_eq c)) (off3_peer c 0 rfl) (k0_off2_eq c) (send_sem rfl _) (recv_sem (k0_off1_eq c) _)) $$ Hs; iintro Hs
  iapply (step_send m ρ K c 2 (by decide) (by decide) (Fin.ext (a := ⟨k0_dev17 c, k0_dev17_lt c⟩) (k0_dev17_eq c)) (off3_peer c 1 rfl) (k0_off2_eq c) (send_sem rfl _) (recv_sem (k0_off1_eq c) _)) $$ Hs; iintro Hs
  iapply (step_send m ρ K c 3 (by decide) (by decide) (Fin.ext (a := ⟨k0_dev18 c, k0_dev18_lt c⟩) (k0_dev18_eq c)) (off3_peer c 2 rfl) (k0_off2_eq c) (send_sem rfl _) (recv_sem (k0_off1_eq c) _)) $$ Hs; iintro Hs
  iapply WP_ret
  iapply Hk; iexact Hs

/-- Transfers 4 to 5. -/
theorem part5 (c : Dev nD) (v2 v106 x : BitVec 32) {Φ : _ → sProp 𝕄} :
    sendState m ρ K c 4 ⊢ iprop((sendState m ρ K c 6 -∗ Φ ⟨⟩)
      -∗ WP c (k0_part5 (F := F) xM (Memref.isWhole_whole _) wM (Memref.isWhole_whole _) oM (Memref.isWhole_whole _) bM (Memref.isWhole_whole _) cc0_scratch1 cc0_scratch2 c v2 v106 x) Φ) := by
  simp only [k0_part5_eq_skeleton]; unfold k0_part5_skel
  simp only [semSignalWord, semWaitWord, Prog.lift, Prog.bind_op, Prog.bind_ret, Prog.pure_eq_ret, wp_deviceId]
  iintro Hs Hk
  iapply (step_send m ρ K c 4 (by decide) (by decide) (Fin.ext (a := ⟨k0_dev19 c, k0_dev19_lt c⟩) (k0_dev19_eq c)) (off3_peer c 3 rfl) (k0_off2_eq c) (send_sem rfl _) (recv_sem (k0_off1_eq c) _)) $$ Hs; iintro Hs
  iapply (step_send m ρ K c 5 (by decide) (by decide) (Fin.ext (a := ⟨k0_dev20 c, k0_dev20_lt c⟩) (k0_dev20_eq c)) (off3_peer c 4 rfl) (k0_off2_eq c) (send_sem rfl _) (recv_sem (k0_off1_eq c) _)) $$ Hs; iintro Hs
  iapply WP_ret
  iapply Hk; iexact Hs

/-- Transfers 6 to 8. -/
theorem part6 (c : Dev nD) (v2 : BitVec 32) {Φ : _ → sProp 𝕄} :
    sendState m ρ K c 6 ⊢ iprop((sendState m ρ K c 9 -∗ Φ ⟨⟩)
      -∗ WP c (k0_part6 (F := F) xM (Memref.isWhole_whole _) wM (Memref.isWhole_whole _) oM (Memref.isWhole_whole _) bM (Memref.isWhole_whole _) cc0_scratch1 cc0_scratch2 c v2) Φ) := by
  simp only [k0_part6_eq_skeleton]; unfold k0_part6_skel
  simp only [semSignalWord, semWaitWord, Prog.lift, Prog.bind_op, Prog.bind_ret, Prog.pure_eq_ret, wp_deviceId]
  iintro Hs Hk
  iapply (step_send m ρ K c 6 (by decide) (by decide) (Fin.ext (a := ⟨k0_dev21 c, k0_dev21_lt c⟩) (k0_dev21_eq c)) (off3_peer c 5 rfl) (k0_off2_eq c) (send_sem rfl _) (recv_sem (k0_off1_eq c) _)) $$ Hs; iintro Hs
  iapply (step_send m ρ K c 7 (by decide) (by decide) (Fin.ext (a := ⟨k0_dev22 c, k0_dev22_lt c⟩) (k0_dev22_eq c)) (off3_peer c 6 rfl) (k0_off2_eq c) (send_sem rfl _) (recv_sem (k0_off1_eq c) _)) $$ Hs; iintro Hs
  iapply (step_send m ρ K c 8 (by decide) (by decide) (Fin.ext (a := ⟨k0_dev23 c, k0_dev23_lt c⟩) (k0_dev23_eq c)) (off3_peer c 7 rfl) (k0_off2_eq c) (send_sem rfl _) (recv_sem (k0_off1_eq c) _)) $$ Hs; iintro Hs
  iapply WP_ret
  iapply Hk; iexact Hs

/-- Transfers 9 to 11. -/
theorem part7 (c : Dev nD) (v2 : BitVec 32) {Φ : _ → sProp 𝕄} :
    sendState m ρ K c 9 ⊢ iprop((∀ v203 y, sendState m ρ K c 12 -∗ Φ ⟨v203, y⟩)
      -∗ WP c (k0_part7 (F := F) xM (Memref.isWhole_whole _) wM (Memref.isWhole_whole _) oM (Memref.isWhole_whole _) bM (Memref.isWhole_whole _) cc0_scratch1 cc0_scratch2 c v2) Φ) := by
  simp only [k0_part7_eq_skeleton]; unfold k0_part7_skel
  simp only [semSignalWord, semWaitWord, Prog.lift, Prog.bind_op, Prog.bind_ret, Prog.pure_eq_ret, wp_deviceId]
  iintro Hs Hk
  iapply (step_send m ρ K c 9 (by decide) (by decide) (Fin.ext (a := ⟨k0_dev24 c, k0_dev24_lt c⟩) (k0_dev24_eq c)) (off3_peer c 8 rfl) (k0_off2_eq c) (send_sem rfl _) (recv_sem (k0_off1_eq c) _)) $$ Hs; iintro Hs
  iapply (step_send m ρ K c 10 (by decide) (by decide) (Fin.ext (a := ⟨k0_dev25 c, k0_dev25_lt c⟩) (k0_dev25_eq c)) (off3_peer c 9 rfl) (k0_off2_eq c) (send_sem rfl _) (recv_sem (k0_off1_eq c) _)) $$ Hs; iintro Hs
  iapply (step_send m ρ K c 11 (by decide) (by decide) (Fin.ext (a := ⟨k0_dev26 c, k0_dev26_lt c⟩) (k0_dev26_eq c)) (off3_peer c 10 rfl) (k0_off2_eq c) (send_sem rfl _) (recv_sem (k0_off1_eq c) _)) $$ Hs; iintro Hs
  iapply WP_ret
  iapply Hk; iexact Hs

/-- Transfers 12 to 14. -/
theorem part8 (c : Dev nD) (v2 v203 x : BitVec 32) {Φ : _ → sProp 𝕄} :
    sendState m ρ K c 12 ⊢ iprop((∀ y, sendState m ρ K c 15 -∗ Φ y)
      -∗ WP c (k0_part8 (F := F) xM (Memref.isWhole_whole _) wM (Memref.isWhole_whole _) oM (Memref.isWhole_whole _) bM (Memref.isWhole_whole _) cc0_scratch1 cc0_scratch2 c v2 v203 x) Φ) := by
  simp only [k0_part8_eq_skeleton]; unfold k0_part8_skel
  simp only [semSignalWord, semWaitWord, Prog.lift, Prog.bind_op, Prog.bind_ret, Prog.pure_eq_ret, wp_deviceId]
  iintro Hs Hk
  iapply (step_send m ρ K c 12 (by decide) (by decide) (Fin.ext (a := ⟨k0_dev27 c, k0_dev27_lt c⟩) (k0_dev27_eq c)) (off3_peer c 11 rfl) (k0_off2_eq c) (send_sem rfl _) (recv_sem (k0_off1_eq c) _)) $$ Hs; iintro Hs
  iapply (step_send m ρ K c 13 (by decide) (by decide) (Fin.ext (a := ⟨k0_dev28 c, k0_dev28_lt c⟩) (k0_dev28_eq c)) (off3_peer c 12 rfl) (k0_off2_eq c) (send_sem rfl _) (recv_sem (k0_off1_eq c) _)) $$ Hs; iintro Hs
  iapply (step_send m ρ K c 14 (by decide) (by decide) (Fin.ext (a := ⟨k0_dev29 c, k0_dev29_lt c⟩) (k0_dev29_eq c)) (off3_peer c 13 rfl) (k0_off2_eq c) (send_sem rfl _) (recv_sem (k0_off1_eq c) _)) $$ Hs; iintro Hs
  iapply WP_ret
  iapply Hk; iexact Hs

/-- The credits and positions of all receive cells, before any wait. -/
def recvRest (c : Dev nD) : sProp 𝕄 :=
  bigSep (rangeSet 16 0 16) fun s => iprop(cred (tallyAt (recvCell c s) () N) ∗ atPos ER (recvCell c s) 0 ∅ 0)
/-- The credits of all sends. -/
def sendCreds (c : Dev nD) : sProp 𝕄 := bigSep (rangeSet 16 1 16) fun d => cred (tallyAt (sendCell c d) () N)

/-- After the last transfer nothing is owed, and the waits for the blocks begin. -/
theorem sendState_done (c : Dev nD) : iprop(sendState m ρ K c 16 ∗ recvRest (F := F) c) ⊢ iprop(recvState m ρ K c 0 ∗ sendCreds (F := F) c) := by
  unfold sendState recvState recvRest sendCreds
  rw [owedR_done, Ring.bigSep_rangeSet_empty (lo := 0) (hi := 0) (Nat.le_refl _)]
  iintro ⟨⟨#HR, HO, -, Hc⟩, Hrest⟩
  isplitl [HO Hrest]
  · isplitr; · iexact HR
    isplitl [HO]; · iexact HO
    isplitl [Hrest]; · iexact Hrest
    iempintro
  iexact Hc

/-- Transfer 15 and the waits for blocks 0 to 2. -/
theorem part9 (c : Dev nD) (v2 x : BitVec 32) {Φ : _ → sProp 𝕄} :
    iprop(sendState m ρ K c 15 ∗ recvRest (F := F) c) ⊢ iprop(((recvState m ρ K c 3 ∗ sendCreds (F := F) c) -∗ Φ (k0_pay1 (F := F)))
      -∗ WP c (k0_part9 (F := F) xM (Memref.isWhole_whole _) wM (Memref.isWhole_whole _) oM (Memref.isWhole_whole _) bM (Memref.isWhole_whole _) cc0_scratch1 cc0_scratch2 c v2 x) Φ) := by
  simp only [k0_part9_eq_skeleton]; unfold k0_part9_skel
  simp only [semSignalWord, semWaitWord, Prog.lift, Prog.bind_op, Prog.bind_ret, Prog.pure_eq_ret, wp_deviceId]
  iintro ⟨Hs, Hrest⟩ Hk
  iapply (step_send m ρ K c 15 (by decide) (by decide) (Fin.ext (a := ⟨k0_dev30 c, k0_dev30_lt c⟩) (k0_dev30_eq c)) (off3_peer c 14 rfl) (k0_off2_eq c) (send_sem rfl _) (recv_sem (k0_off1_eq c) _)) $$ Hs; iintro Hs
  ihave H := (sendState_done m ρ K c) $$ [Hs Hrest]
  · isplitl [Hs] <;> iassumption
  icases H with ⟨Hs, Hc⟩
  iapply (step_recv m ρ K c 0 (by decide) (recv_sem rfl _) (credit_block _)) $$ Hs; iintro Hs
  iapply (step_recv m ρ K c 1 (by decide) (recv_sem rfl _) (credit_block _)) $$ Hs; iintro Hs
  iapply (step_recv m ρ K c 2 (by decide) (recv_sem rfl _) (credit_block _)) $$ Hs; iintro Hs
  iapply WP_ret
  iapply Hk
  isplitl [Hs] <;> iassumption

/-! ## The blocks and the product -/

/-- The staged operand `w` on device `c`. -/
def wPts (c : Dev nD) : sProp 𝕄 := ((c : Thread nD τ).loc cc0_stg1_0) ↦{fullShare} wstg m ρ c

/-- The 256 rows of `w` at an offset. -/
def wRows (c : Dev nD) (off : Fin S1024x1024.rank → ℕ) (inb : ∀ a, off a + S256x1024.size a ≤ S1024x1024.size a) : Vec F S256x1024 .f32 :=
  wM.view.readAt (Elt F) (Rect.unit (s := S1024x1024) off S256x1024.size inb).toLoadRect (wstg m ρ c)

/-- A load of rows of `w`. -/
theorem step_rows (c : Dev nD) {off : Fin S1024x1024.rank → ℕ} {inb}
    {hl : wM.view.LoadsAt (Rect.unit (s := S1024x1024) off S256x1024.size inb).toLoadRect}
    {α : Type} {Q : α → sProp 𝕄} {k' : Vec F S256x1024 .f32 → Prog (TpuEff nD τ sig (Elt F) Λ₀ .tc) α} :
    wPts m ρ c ⊢ iprop((wPts m ρ c -∗ WP c (k' (wRows m ρ c off inb)) Q)
      -∗ WP c (.op (.load wM (Rect.unit (s := S1024x1024) off S256x1024.size inb).toLoadRect hl) k') Q) :=
  wp_load 𝒱₀ (c : Thread nD τ) none Set.univ (m := wM) (Finset.subset_univ _)

/-- The wait for block 3, the first group of the product, and the waits for blocks 4 to 6. -/
theorem part10 (c : Dev nD) (v : FVec F S64x1024 .f32) {Φ : _ → sProp 𝕄} :
    iprop(recvState m ρ K c 3 ∗ wPts m ρ c) ⊢ iprop(((recvState m ρ K c 7 ∗ wPts m ρ c)
        -∗ Φ (k0_pay2 v (slotVal m ρ c ⟨0, by decide⟩) (slotVal m ρ c ⟨1, by decide⟩) (slotVal m ρ c ⟨2, by decide⟩) (slotVal m ρ c ⟨3, by decide⟩) (wRows m ρ c ![0, 0] inb_S1024x1024_S256x1024_0_0)))
      -∗ WP c (k0_part10 (F := F) xM (Memref.isWhole_whole _) wM (Memref.isWhole_whole _) oM (Memref.isWhole_whole _) bM (Memref.isWhole_whole _) cc0_scratch1 cc0_scratch2 v) Φ) := by
  simp only [k0_part10_eq_skeleton]; unfold k0_part10_skel
  simp only [semSignalWord, semWaitWord, Prog.lift, Prog.bind_op, Prog.bind_ret, Prog.pure_eq_ret, wp_deviceId]
  iintro ⟨Hs, Hw⟩ Hk
  iapply (step_recv m ρ K c 3 (by decide) (recv_sem rfl _) (credit_block _)) $$ Hs; iintro Hs
  iapply (step_slot m ρ K c 4 0 (by decide) (by decide) rfl) $$ Hs; iintro Hs
  iapply (step_slot m ρ K c 4 1 (by decide) (by decide) rfl) $$ Hs; iintro Hs
  iapply (step_slot m ρ K c 4 2 (by decide) (by decide) rfl) $$ Hs; iintro Hs
  iapply (step_slot m ρ K c 4 3 (by decide) (by decide) rfl) $$ Hs; iintro Hs
  iapply (step_rows m ρ c) $$ Hw; iintro Hw
  iapply (step_recv m ρ K c 4 (by decide) (recv_sem rfl _) (credit_block _)) $$ Hs; iintro Hs
  iapply (step_recv m ρ K c 5 (by decide) (recv_sem rfl _) (credit_block _)) $$ Hs; iintro Hs
  iapply (step_recv m ρ K c 6 (by decide) (recv_sem rfl _) (credit_block _)) $$ Hs; iintro Hs
  iapply WP_ret
  iapply Hk
  isplitl [Hs] <;> iassumption

/-- The wait for block 7, the second group of the product, and the waits for blocks 8 to 10. -/
theorem part11 (c : Dev nD) (v : FVec F S64x1024 .f32) {Φ : _ → sProp 𝕄} :
    iprop(recvState m ρ K c 7 ∗ wPts m ρ c) ⊢ iprop(((recvState m ρ K c 11 ∗ wPts m ρ c)
        -∗ Φ (k0_pay3 v (slotVal m ρ c ⟨4, by decide⟩) (slotVal m ρ c ⟨5, by decide⟩) (slotVal m ρ c ⟨6, by decide⟩) (slotVal m ρ c ⟨7, by decide⟩) (wRows m ρ c ![256, 0] inb_S1024x1024_S256x1024_256_0)))
      -∗ WP c (k0_part11 (F := F) xM (Memref.isWhole_whole _) wM (Memref.isWhole_whole _) oM (Memref.isWhole_whole _) bM (Memref.isWhole_whole _) cc0_scratch1 cc0_scratch2 v) Φ) := by
  simp only [k0_part11_eq_skeleton]; unfold k0_part11_skel
  simp only [semSignalWord, semWaitWord, Prog.lift, Prog.bind_op, Prog.bind_ret, Prog.pure_eq_ret, wp_deviceId]
  iintro ⟨Hs, Hw⟩ Hk
  iapply (step_recv m ρ K c 7 (by decide) (recv_sem rfl _) (credit_block _)) $$ Hs; iintro Hs
  iapply (step_slot m ρ K c 8 4 (by decide) (by decide) rfl) $$ Hs; iintro Hs
  iapply (step_slot m ρ K c 8 5 (by decide) (by decide) rfl) $$ Hs; iintro Hs
  iapply (step_slot m ρ K c 8 6 (by decide) (by decide) rfl) $$ Hs; iintro Hs
  iapply (step_slot m ρ K c 8 7 (by decide) (by decide) rfl) $$ Hs; iintro Hs
  iapply (step_rows m ρ c) $$ Hw; iintro Hw
  iapply (step_recv m ρ K c 8 (by decide) (recv_sem rfl _) (credit_block _)) $$ Hs; iintro Hs
  iapply (step_recv m ρ K c 9 (by decide) (recv_sem rfl _) (credit_block _)) $$ Hs; iintro Hs
  iapply (step_recv m ρ K c 10 (by decide) (recv_sem rfl _) (credit_block _)) $$ Hs; iintro Hs
  iapply WP_ret
  iapply Hk
  isplitl [Hs] <;> iassumption

/-- The wait for block 11, the third group of the product, and the waits for blocks 12 to 14. -/
theorem part12 (c : Dev nD) (v : FVec F S64x1024 .f32) {Φ : _ → sProp 𝕄} :
    iprop(recvState m ρ K c 11 ∗ wPts m ρ c) ⊢ iprop(((recvState m ρ K c 15 ∗ wPts m ρ c)
        -∗ Φ (k0_pay4 v (slotVal m ρ c ⟨8, by decide⟩) (slotVal m ρ c ⟨9, by decide⟩) (slotVal m ρ c ⟨10, by decide⟩) (slotVal m ρ c ⟨11, by decide⟩) (wRows m ρ c ![512, 0] inb_S1024x1024_S256x1024_512_0)))
      -∗ WP c (k0_part12 (F := F) xM (Memref.isWhole_whole _) wM (Memref.isWhole_whole _) oM (Memref.isWhole_whole _) bM (Memref.isWhole_whole _) cc0_scratch1 cc0_scratch2 v) Φ) := by
  simp only [k0_part12_eq_skeleton]; unfold k0_part12_skel
  simp only [semSignalWord, semWaitWord, Prog.lift, Prog.bind_op, Prog.bind_ret, Prog.pure_eq_ret, wp_deviceId]
  iintro ⟨Hs, Hw⟩ Hk
  iapply (step_recv m ρ K c 11 (by decide) (recv_sem rfl _) (credit_block _)) $$ Hs; iintro Hs
  iapply (step_slot m ρ K c 12 8 (by decide) (by decide) rfl) $$ Hs; iintro Hs
  iapply (step_slot m ρ K c 12 9 (by decide) (by decide) rfl) $$ Hs; iintro Hs
  iapply (step_slot m ρ K c 12 10 (by decide) (by decide) rfl) $$ Hs; iintro Hs
  iapply (step_slot m ρ K c 12 11 (by decide) (by decide) rfl) $$ Hs; iintro Hs
  iapply (step_rows m ρ c) $$ Hw; iintro Hw
  iapply (step_recv m ρ K c 12 (by decide) (recv_sem rfl _) (credit_block _)) $$ Hs; iintro Hs
  iapply (step_recv m ρ K c 13 (by decide) (recv_sem rfl _) (credit_block _)) $$ Hs; iintro Hs
  iapply (step_recv m ρ K c 14 (by decide) (recv_sem rfl _) (credit_block _)) $$ Hs; iintro Hs
  iapply WP_ret
  iapply Hk
  isplitl [Hs] <;> iassumption

/-- The staged result on device `c`, at given contents. -/
def oPts (c : Dev nD) (f : (cc0_stg2_0 : Ref sig .tc).ty.Contents (Elt F)) : sProp 𝕄 := ((c : Thread nD τ).loc cc0_stg2_0) ↦{fullShare} f

/-- The product after the first three groups. -/
def accAt (c : Dev nD) : FVec F S64x1024 .f32 :=
  k0_pay4 (k0_pay3 (k0_pay2 (k0_pay1 (F := F))
      (slotVal m ρ c ⟨0, by decide⟩) (slotVal m ρ c ⟨1, by decide⟩) (slotVal m ρ c ⟨2, by decide⟩) (slotVal m ρ c ⟨3, by decide⟩) (wRows m ρ c ![0, 0] inb_S1024x1024_S256x1024_0_0))
      (slotVal m ρ c ⟨4, by decide⟩) (slotVal m ρ c ⟨5, by decide⟩) (slotVal m ρ c ⟨6, by decide⟩) (slotVal m ρ c ⟨7, by decide⟩) (wRows m ρ c ![256, 0] inb_S1024x1024_S256x1024_256_0))
      (slotVal m ρ c ⟨8, by decide⟩) (slotVal m ρ c ⟨9, by decide⟩) (slotVal m ρ c ⟨10, by decide⟩) (slotVal m ρ c ⟨11, by decide⟩) (wRows m ρ c ![512, 0] inb_S1024x1024_S256x1024_512_0)
/-- The result, from the product of the first three groups. -/
def outOf (c : Dev nD) (v : FVec F S64x1024 .f32) : FVec F S64x1024 .f32 :=
  k0_pay5 v (slotVal m ρ c ⟨12, by decide⟩) (slotVal m ρ c ⟨13, by decide⟩) (slotVal m ρ c ⟨14, by decide⟩) (slotVal m ρ c ⟨15, by decide⟩) (wRows m ρ c ![768, 0] inb_S1024x1024_S256x1024_768_0)
/-- The kernel's result on device `c`. -/
def outAt (c : Dev nD) : (cc0_stg2_0 : Ref sig .tc).ty.Contents (Elt F) := outOf m ρ c (accAt m ρ c)

/-- Every block landed and every receive cell closed. -/
def recvAll (c : Dev nD) : sProp 𝕄 := bigSep (rangeSet 16 0 16) fun s => iprop(semVal (recvCell c s) 0 ∗ recvPay m ρ c s)
/-- The positions at the send cells that are used. -/
def sendPos (c : Dev nD) : sProp 𝕄 := bigSep (rangeSet 16 1 16) fun d => atPos ER (sendCell c d) 0 ∅ 0

/-- After the last block the waits for the sends begin. -/
theorem recvState_done (c : Dev nD) : iprop(recvState m ρ K c 16 ∗ sendCreds (F := F) c ∗ sendPos (F := F) c) ⊢ iprop(drainState m ρ K c 1 ∗ recvAll m ρ c) := by
  unfold recvState drainState sendCreds sendPos recvAll
  rw [Ring.bigSep_rangeSet_empty (lo := 1) (hi := 1) (Nat.le_refl _), bigSep_sep' (rangeSet 16 1 16)]
  iintro ⟨⟨#HR, HO, -, Hall⟩, Hc, Hp⟩
  isplitr [Hall]
  · isplitr; · iexact HR
    isplitl [HO]; · iexact HO
    isplitl [Hc Hp]
    · isplitl [Hc] <;> iassumption
    iempintro
  iexact Hall

/-- The offsets of a whole array are zero. -/
theorem zero_off : (![0, 0] : Fin 2 → ℕ) = fun _ => 0 := funext fun a => by fin_cases a <;> rfl

/-- The store of the result replaces it whole. -/
theorem write_out (f w : (cc0_stg2_0 : Ref sig .tc).ty.Contents (Elt F)) :
    (oM.access (Rect.unit (s := S64x1024) ![0, 0] S64x1024.size inb_S64x1024_S64x1024_0_0)).write (Elt F) f w Finset.univ = w :=
  Memref.write_access_unit_zero_univ (Elt F) cc0_stg2_0 zero_off _ f w

/-- The wait for block 15, the last group, the store of the result, and the waits for sends 1 to 3. -/
theorem part13 (c : Dev nD) (v : FVec F S64x1024 .f32) (f : (cc0_stg2_0 : Ref sig .tc).ty.Contents (Elt F)) {Φ : _ → sProp 𝕄} :
    iprop(recvState m ρ K c 15 ∗ (sendCreds (F := F) c ∗ sendPos (F := F) c) ∗ wPts m ρ c ∗ oPts c f)
      ⊢ iprop(((drainState m ρ K c 4 ∗ recvAll m ρ c ∗ wPts m ρ c ∗ oPts c (outOf m ρ c v)) -∗ Φ ⟨⟩)
      -∗ WP c (k0_part13 (F := F) xM (Memref.isWhole_whole _) wM (Memref.isWhole_whole _) oM (Memref.isWhole_whole _) bM (Memref.isWhole_whole _) cc0_scratch1 cc0_scratch2 c v) Φ) := by
  simp only [k0_part13_eq_skeleton]; unfold k0_part13_skel
  simp only [semSignalWord, semWaitWord, Prog.lift, Prog.bind_op, Prog.bind_ret, Prog.pure_eq_ret, wp_deviceId]
  iintro ⟨Hs, ⟨Hc, Hp⟩, Hw, Ho⟩ Hk
  iapply (step_recv m ρ K c 15 (by decide) (recv_sem rfl _) (credit_block _)) $$ Hs; iintro Hs
  iapply (step_slot m ρ K c 16 12 (by decide) (by decide) rfl) $$ Hs; iintro Hs
  iapply (step_slot m ρ K c 16 13 (by decide) (by decide) rfl) $$ Hs; iintro Hs
  iapply (step_slot m ρ K c 16 14 (by decide) (by decide) rfl) $$ Hs; iintro Hs
  iapply (step_slot m ρ K c 16 15 (by decide) (by decide) rfl) $$ Hs; iintro Hs
  iapply (step_rows m ρ c) $$ Hw; iintro Hw
  unfold oPts
  iapply (wp_load 𝒱₀ (c : Thread nD τ) none Set.univ (m := oM) (Finset.subset_univ _)) $$ Ho; iintro Ho
  iapply (wp_store 𝒱₀ (c : Thread nD τ) none Set.univ (m := oM) (r := Rect.unit (s := S64x1024) ![0, 0] S64x1024.size inb_S64x1024_S64x1024_0_0) (Mk := Finset.univ) (Finset.subset_univ _)) $$ Ho; iintro Ho
  rw [write_out]
  ihave H := (recvState_done m ρ K c) $$ [Hs Hc Hp]
  · isplitl [Hs]; · iexact Hs
    isplitl [Hc] <;> iassumption
  icases H with ⟨Hs, Hall⟩
  iapply (step_drain m ρ K c 1 (by decide) (by decide) (send_sem rfl _) (credit_block _)) $$ Hs; iintro Hs
  iapply (step_drain m ρ K c 2 (by decide) (by decide) (send_sem rfl _) (credit_block _)) $$ Hs; iintro Hs
  iapply (step_drain m ρ K c 3 (by decide) (by decide) (send_sem rfl _) (credit_block _)) $$ Hs; iintro Hs
  iapply WP_ret
  iapply Hk
  isplitl [Hs]; · iexact Hs
  isplitl [Hall]; · iexact Hall
  isplitl [Hw]; · iexact Hw
  iexact Ho

/-- The waits for sends 4 to 10. -/
theorem part14 (c : Dev nD) {Φ : _ → sProp 𝕄} :
    drainState m ρ K c 4 ⊢ iprop((drainState m ρ K c 11 -∗ Φ ⟨⟩) -∗ WP c (k0_part14 (F := F) xM (Memref.isWhole_whole _) wM (Memref.isWhole_whole _) oM (Memref.isWhole_whole _) bM (Memref.isWhole_whole _) cc0_scratch1 cc0_scratch2 c) Φ) := by
  simp only [k0_part14_eq_skeleton]; unfold k0_part14_skel
  simp only [semSignalWord, semWaitWord, Prog.lift, Prog.bind_op, Prog.bind_ret, Prog.pure_eq_ret, wp_deviceId]
  iintro Hs Hk
  iapply (step_drain m ρ K c 4 (by decide) (by decide) (send_sem rfl _) (credit_block _)) $$ Hs; iintro Hs
  iapply (step_drain m ρ K c 5 (by decide) (by decide) (send_sem rfl _) (credit_block _)) $$ Hs; iintro Hs
  iapply (step_drain m ρ K c 6 (by decide) (by decide) (send_sem rfl _) (credit_block _)) $$ Hs; iintro Hs
  iapply (step_drain m ρ K c 7 (by decide) (by decide) (send_sem rfl _) (credit_block _)) $$ Hs; iintro Hs
  iapply (step_drain m ρ K c 8 (by decide) (by decide) (send_sem rfl _) (credit_block _)) $$ Hs; iintro Hs
  iapply (step_drain m ρ K c 9 (by decide) (by decide) (send_sem rfl _) (credit_block _)) $$ Hs; iintro Hs
  iapply (step_drain m ρ K c 10 (by decide) (by decide) (send_sem rfl _) (credit_block _)) $$ Hs; iintro Hs
  iapply WP_ret
  iapply Hk; iexact Hs

end Cert.Exchange
-- ==== Proof.Body.lean ====
/-
# The kernel on one device

What a device holds when the kernel starts, the whole body run by the parts of `Parts.lean`, and what it holds at the end.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## Regrouping -/

/-- A family over the devices is device `c`'s member and those of its peers, in the order of their distance. -/
theorem around (c : Dev nD) (Φ : Dev nD → sProp 𝕄) :
    bigSep Finset.univ Φ = iprop(Φ c ∗ bigSep (rangeSet 16 1 16) fun d => Φ (peer c d)) := by
  rw [bigSep_univ_equiv (peers c) Φ]
  show bigSep (Finset.univ : Finset (Fin 16)) (fun d => Φ (peer c d)) = _
  have e := Ring.bigSep_rangeSet_head (NB := 16) (Φ := fun d => Φ (peer c d)) (lo := 0) (hi := 16) (by decide) (by decide)
  rw [Ring.rangeSet_univ, show (⟨0, by decide⟩ : Fin 16) = 0 from rfl, peer_zero] at e
  exact e

/-- A family over the distances is that at zero and the others. -/
theorem univ_head (Φ : Fin 16 → sProp 𝕄) : bigSep Finset.univ Φ = iprop(Φ 0 ∗ bigSep (rangeSet 16 1 16) Φ) := by
  have e := Ring.bigSep_rangeSet_head (NB := 16) (Φ := Φ) (lo := 0) (hi := 16) (by decide) (by decide)
  rw [Ring.rangeSet_univ] at e
  exact e

/-- A family over the cells of a device: the barrier's, the send cells', the receive cells'. -/
theorem over_cells (Φ : CIx → sProp 𝕄) :
    bigSep Finset.univ Φ = iprop(Φ (.inl ()) ∗ bigSep Finset.univ (fun d : Fin 16 => Φ (.inr (.inl d))) ∗ bigSep Finset.univ (fun s : Dev nD => Φ (.inr (.inr s)))) := by
  rw [bigSep_univ_sum, bigSep_univ_sum, Finset.univ_unique, bigSep_singleton]; rfl

/-- A block's columns are all columns. -/
theorem off_rest (s : Dev nD) (a : Fin S1024x64.rank) (ha : a ≠ 0) : (![64 * s.val, 0] : Fin S1024x64.rank → ℕ) a = 0 := by
  fin_cases a
  · exact absurd rfl ha
  · rfl
/-- A slot is as wide as the buffer in every axis but the first. -/
theorem size_rest (a : Fin S1024x64.rank) (ha : a ≠ 0) : S64x64.size a = S1024x64.size a := by
  fin_cases a
  · exact absurd rfl ha
  · rfl

/-- The slots are disjoint, -/
theorem slots_disjoint (b b' : Dev nD) (h : b ≠ b') : Disjoint (slotR b).set (slotR b').set :=
  Ring.lead_disjoint (s := S1024x64) (NB := 16) 0 64 (fun b => ![64 * b.val, 0]) S64x64.size inb_slot (fun _ => rfl) rfl b b' h

/-- and together they are the buffer. -/
theorem slots_cover : Finset.univ.biUnion (fun s : Dev nD => (slotR s).set) = Finset.univ :=
  Ring.lead_cover (s := S1024x64) (NB := 16) 0 64 (fun b => ![64 * b.val, 0]) S64x64.size inb_slot (fun _ => rfl) off_rest rfl size_rest rfl

/-- The staged operand is its sixteen blocks of rows. -/
theorem x_slots (c : Dev nD) : (((c : Thread nD τ).loc cc0_stg0_0) ↦{fullShare} xstg m ρ c : sProp 𝕄) = bigSep Finset.univ fun s : Dev nD => xPts m ρ c s := by
  rw [Ring.pointsTo_blocks (fun s : Dev nD => (slotR s).set) slots_disjoint slots_cover]
  refine bigSep_congr fun s _ => ?_
  unfold xPts
  rw [show (xSlot s).view.set = (slotR s).set from View.set_slice_whole _ _]

/-- The communication buffer is its sixteen slots. -/
theorem b_slots (c : Dev nD) (f : (cc0_scratch0 : Ref sig .tc).ty.Contents (Elt F)) :
    (((c : Thread nD τ).loc cc0_scratch0) ↦{fullShare} f : sProp 𝕄) = bigSep Finset.univ fun s : Dev nD => slotPts c s f := by
  rw [Ring.pointsTo_blocks (fun s : Dev nD => (slotR s).set) slots_disjoint slots_cover]
  refine bigSep_congr fun s _ => ?_
  unfold slotPts
  rw [show (bSlot s).view.set = (slotR s).set from View.set_slice_whole _ _]

/-! ## What a device starts with -/

/-- The tokens of the duties device `c` pays. -/
def payToks (c : Dev nD) : sProp 𝕄 :=
  iprop((bigSep (rangeSet 16 1 16) fun d => dutyTok ER (barCell (peer c d)) 0 c)
    ∗ (bigSep Finset.univ fun d : Fin 16 => dutyTok ER (recvCell (peer c d) c) 0 0)
    ∗ (bigSep (rangeSet 16 1 16) fun d => dutyTok ER (sendCell c d) 0 0))

/-- Its positions at its own cells, and those tokens. -/
def linear (c : Dev nD) : sProp 𝕄 :=
  iprop((bigSep Finset.univ fun ix : CIx => atPos ER (kcell (c, ix)) 0 ∅ 0) ∗ payToks (F := F) c)

/-- The credits dealt at the launch: the barrier's fifteen units, and a block for every receive cell but its own. -/
def credits (c : Dev nD) : sProp 𝕄 :=
  iprop(cred (tallyAt (barCell c) () 15) ∗ bigSep (Finset.univ.erase c) fun s => cred (tallyAt (recvCell c s) () N))

/-- Every semaphore the kernel uses on device `c`, at zero. -/
def allZero (c : Dev nD) : sProp 𝕄 := bigSep Finset.univ fun ix : CIx => semVal (kcell (c, ix)) 0

/-- The communication buffer, at some contents. -/
def bAny (c : Dev nD) : sProp 𝕄 := iprop(∃ f, ((c : Thread nD τ).loc cc0_scratch0) ↦{fullShare} f)
/-- The staged operand `x`. -/
def xAll (c : Dev nD) : sProp 𝕄 := ((c : Thread nD τ).loc cc0_stg0_0) ↦{fullShare} xstg m ρ c

/-- What the body leaves. -/
def bodyDone (c : Dev nD) : sProp 𝕄 :=
  iprop(bAny (F := F) c ∗ allZero (F := F) c ∗ owesSome (F := F) c 0 ∗ xAll m ρ c ∗ wPts m ρ c ∗ oPts c (outAt m ρ c))

/-- A slot at given contents is one at some contents. -/
theorem barPay_intro (c s : Dev nD) (f : (cc0_scratch0 : Ref sig .tc).ty.Contents (Elt F)) : slotPts c s f ⊢ barPay s c := by
  unfold barPay; iintro H; iexists f; iexact H

/-- So it is for all slots together. -/
theorem slots_any (c : Dev nD) (f : (cc0_scratch0 : Ref sig .tc).ty.Contents (Elt F)) :
    (bigSep Finset.univ fun s : Dev nD => slotPts c s f) ⊢ bigSep Finset.univ fun s : Dev nD => (barPay s c : sProp 𝕄) :=
  bigSep_mono fun s _ => barPay_intro c s f

/-- The slots of a buffer at some contents, each at some contents. -/
theorem bAny_open (c : Dev nD) : bAny (F := F) c ⊢ bigSep Finset.univ fun s : Dev nD => barPay s c := by
  unfold bAny
  iintro ⟨%f, H⟩
  ihave H' := (Entails.of_eq (b_slots c f)) $$ H
  iapply (slots_any c f); iexact H'

/-- Every slot and its source: all blocks landed give the buffer back, and the device's own block of `x`. -/
theorem landed_close (c : Dev nD) : recvAll m ρ c
    ⊢ iprop((bigSep Finset.univ fun s : Dev nD => semVal (recvCell c s) 0) ∗ bAny (F := F) c ∗ xPts m ρ c c) := by
  unfold recvAll recvPay
  rw [Ring.rangeSet_univ, bigSep_sep', bigSep_sep']
  iintro ⟨Hz, Hb, Hx⟩
  isplitl [Hz]; · iexact Hz
  isplitl [Hb]
  · unfold bAny; iexists (landed m ρ c); rw [b_slots]; iexact Hb
  ihave H := (Rounds.bigSep_pick (Φ := fun s : Dev nD => if s = c then xPts m ρ c c else iprop(emp)) (Finset.mem_univ c)) $$ Hx
  icases H with ⟨H, -⟩
  iapply (Entails.of_eq (if_pos (rfl : c = c) : (if c = c then xPts m ρ c c else iprop(emp)) = xPts m ρ c c)); iexact H

/-- The semaphores one kind after the other. -/
theorem allZero_intro (c : Dev nD) : iprop(semVal (barCell c) 0 ∗ semVal (sendCell c 0) 0 ∗ (bigSep (rangeSet 16 1 16) fun d => semVal (sendCell c d) 0)
      ∗ bigSep Finset.univ fun s : Dev nD => semVal (recvCell c s) 0) ⊢ allZero (F := F) c := by
  unfold allZero
  rw [over_cells, univ_head (fun d => semVal (kcell (c, .inr (.inl d))) 0)]
  iintro ⟨HzB, Hz0, HzS, HzR⟩
  isplitl [HzB]; · iexact HzB
  isplitl [HzS Hz0]
  · isplitl [Hz0] <;> iassumption
  iexact HzR

/-- What is left after the last wait is what the body is to leave. -/
theorem finish (c : Dev nD) :
    iprop(drainState m ρ K c 16 ∗ recvAll m ρ c ∗ semVal (barCell c) 0 ∗ atPos ER (sendCell c 0) 0 ∅ 0)
      ⊢ |={Set.univ}=> iprop(bAny (F := F) c ∗ allZero (F := F) c ∗ owesSome (F := F) c 0 ∗ xAll m ρ c) := by
  unfold drainState
  rw [bigSep_sep' (rangeSet 16 1 16)]
  iintro ⟨⟨#HR, HO, -, HzS, Hx⟩, Hall, HzB, Hat⟩
  ihave H := (landed_close m ρ c) $$ Hall
  icases H with ⟨HzR, Hb, Hxc⟩
  imod (Rounds.cell_close ER (exRd m ρ) (Set.mem_univ (κSend K c 0)) (fun h => h) (R := 0)
      (fun r _ => by rcases Nat.eq_zero_or_pos r with h | h; · rw [h]; exact duties_send_zero m ρ c
                     exact duties_later m ρ _ r h)) $$ [Hat] with Hz0
  · isplitr; · iapply (records_inv m ρ K (c, .inr (.inl 0))); iexact HR
    iexact Hat
  imodintro
  isplitl [Hb]; · iexact Hb
  isplitl [HzB HzS HzR Hz0]
  · iapply (allZero_intro (F := F) c)
    isplitl [HzB]; · iexact HzB
    isplitl [Hz0]; · iexact Hz0
    isplitl [HzS] <;> iassumption
  isplitl [HO]; · iexact HO
  unfold xAll
  rw [x_slots, around c]
  isplitl [Hxc] <;> iassumption

/-! ## The body -/

/-- What the body starts from. -/
def bodyStart (c : Dev nD) : sProp 𝕄 :=
  iprop(records m ρ K ∗ linear (F := F) c ∗ credits (F := F) c ∗ levAts L lv ∗ owesSome (F := F) c (O₀ c) ∗ bAny (F := F) c ∗ xAll m ρ c ∗ wPts m ρ c)

/-- What the signals, the local copy, and the transfers are to have, and what the waits are to have. -/
theorem start_split (c : Dev nD) : bodyStart m ρ K c ⊢ iprop(
    sigState m ρ K c 1
    ∗ ((cred (tallyAt (barCell c) () 15) ∗ atPos ER (barCell c) 0 ∅ 0 ∗ levAts L lv) ∗ (xPts m ρ c c ∗ barPay (F := F) c c ∗ dutyTok ER (recvCell c c) 0 0))
    ∗ ((bigSep (rangeSet 16 1 16) fun d => xPts m ρ c (peer c d)) ∗ (bigSep (rangeSet 16 1 16) fun d => dutyTok ER (sendCell c d) 0 0)
        ∗ bigSep (rangeSet 16 1 16) fun d => dutyTok ER (recvCell (peer c d) c) 0 0)
    ∗ ((bigSep (Finset.univ.erase c) fun s => cred (tallyAt (recvCell c s) () N)) ∗ bigSep Finset.univ fun s : Dev nD => atPos ER (recvCell c s) 0 ∅ 0)
    ∗ (atPos ER (sendCell c 0) 0 ∅ 0 ∗ sendPos (F := F) c) ∗ wPts m ρ c) := by
  unfold bodyStart linear payToks credits xAll sigState sendPos O₀
  rw [x_slots, around c (fun s => xPts m ρ c s), over_cells, univ_head (fun d => atPos ER (kcell (c, .inr (.inl d))) 0 ∅ 0),
    univ_head (fun d => dutyTok ER (recvCell (peer c d) c) 0 0), peer_zero, bigSep_sep' (rangeSet 16 1 16) (fun d => dutyTok ER (barCell (peer c d)) 0 c)]
  iintro ⟨HR, ⟨⟨HaB, ⟨HaS0, HaS⟩, HaR⟩, HtB, ⟨HtR0, HtR⟩, HtS⟩, ⟨HcB, HcR⟩, Hlev, HO, Hb, ⟨Hx0, Hx⟩, Hw⟩
  ihave Hb' := (bAny_open (F := F) c) $$ Hb
  ihave Hb'' := (Entails.of_eq (around c (fun s => barPay (F := F) s c))) $$ Hb'
  icases Hb'' with ⟨Hb0, Hb⟩
  isplitl [HR HO HtB Hb]
  · isplitl [HR]; · iexact HR
    isplitl [HO]; · iexact HO
    isplitl [HtB] <;> iassumption
  isplitl [HcB HaB Hlev Hx0 Hb0 HtR0]
  · isplitl [HcB HaB Hlev]
    · isplitl [HcB]; · iexact HcB
      isplitl [HaB] <;> iassumption
    isplitl [Hx0]; · iexact Hx0
    isplitl [Hb0] <;> iassumption
  isplitl [Hx HtS HtR]
  · isplitl [Hx]; · iexact Hx
    isplitl [HtS] <;> iassumption
  isplitl [HcR HaR]
  · isplitl [HcR] <;> iassumption
  isplitl [HaS0 HaS]
  · isplitl [HaS0] <;> iassumption
  iexact Hw

/-- What the transfers start from. -/
theorem send_start (c : Dev nD) : iprop(records m ρ K ∗ owesSome (F := F) c (owedR c 1) ∗ (bigSep (rangeSet 16 1 16) fun d => barPay (F := F) c (peer c d))
      ∗ (bigSep (rangeSet 16 1 16) fun d => xPts m ρ c (peer c d)) ∗ (bigSep (rangeSet 16 1 16) fun d => dutyTok ER (sendCell c d) 0 0)
      ∗ bigSep (rangeSet 16 1 16) fun d => dutyTok ER (recvCell (peer c d) c) 0 0) ⊢ sendState m ρ K c 1 := by
  unfold sendState sendRes
  rw [Ring.bigSep_rangeSet_empty (lo := 1) (hi := 1) (Nat.le_refl _), bigSep_sep' (rangeSet 16 1 16) (fun d => xPts m ρ c (peer c d)),
    bigSep_sep' (rangeSet 16 1 16) (fun d => barPay (F := F) c (peer c d)), bigSep_sep' (rangeSet 16 1 16) (fun d => dutyTok ER (sendCell c d) 0 0)]
  iintro ⟨HR, HO, Hb, Hx, HtS, HtR⟩
  isplitl [HR]; · iexact HR
  isplitl [HO]; · iexact HO
  isplitl
  · isplitl [Hx]; · iexact Hx
    isplitl [Hb]; · iexact Hb
    isplitl [HtS] <;> iassumption
  iempintro

/-- The credits of all receive cells, with the device's own. -/
theorem recv_start (c : Dev nD) : iprop(cred (tallyAt (recvCell c c) () N) ∗ (bigSep (Finset.univ.erase c) fun s => cred (tallyAt (recvCell c s) () N))
      ∗ bigSep Finset.univ fun s : Dev nD => atPos ER (recvCell c s) 0 ∅ 0) ⊢ recvRest (F := F) c := by
  unfold recvRest
  have e : bigSep Finset.univ (fun s : Dev nD => (cred (tallyAt (recvCell c s) () N) : sProp 𝕄))
      = iprop(cred (tallyAt (recvCell c c) () N) ∗ bigSep (Finset.univ.erase c) fun s => cred (tallyAt (recvCell c s) () N)) := bigSep_erase (Finset.mem_univ c)
  rw [Ring.rangeSet_univ, bigSep_sep']
  iintro ⟨H0, H, Ha⟩
  isplitl [H0 H]
  · iapply (Entails.of_eq e.symm); isplitl [H0] <;> iassumption
  iexact Ha

/-- A program that has returned has run, its postcondition reached through an update. -/
theorem WP_ret_upd {α : Type} (c : Dev nD) (a : α) {Q : α → sProp 𝕄} : iprop(|={Set.univ}=> Q a) ⊢ WP c (Prog.ret a) Q := by
  unfold WP; rw [wp_ret]

/-- The whole kernel on device `c`. -/
theorem sound_body (c : Dev nD) (f : (cc0_stg2_0 : Ref sig .tc).ty.Contents (Elt F)) {Q : PUnit → sProp 𝕄} :
    iprop(bodyStart m ρ K c ∗ oPts c f) ⊢ iprop((bodyDone m ρ c -∗ Q ⟨⟩) -∗ WP c (cc0_body (F := F) xM (Memref.isWhole_whole _) wM (Memref.isWhole_whole _) oM (Memref.isWhole_whole _) bM (Memref.isWhole_whole _) cc0_scratch1 cc0_scratch2) Q) := by
  iintro ⟨Hs, Ho⟩ Hk
  ihave H := (start_split m ρ K c) $$ Hs
  icases H with ⟨Hs, H3, ⟨Hx, HtS, HtR⟩, ⟨HcR, HaR⟩, ⟨Ha0, HaS⟩, Hw⟩
  simp only [cc0_body_eq_skeleton]; unfold cc0_body_skel
  simp only [Prog.lift, Prog.bind_op, Prog.bind_ret, Prog.pure_eq_ret, WP, wp_bind]
  iapply (part1 m ρ K c) $$ Hs; iintro %v2 %v24 %x1 Hs; dsimp only
  iapply (part2 m ρ K c v2 v24 x1) $$ Hs; iintro %v48 %x2 Hs; dsimp only
  iapply (part3 m ρ K c v2 v48 x2) $$ [Hs H3]
  · icases H3 with ⟨H3, H3'⟩
    isplitl [Hs]; · iexact Hs
    isplitl [H3] <;> iassumption
  iintro %v71 ⟨#HR, Hbar, Hc0⟩
  unfold barPost
  icases Hbar with ⟨HO, HzB, Hbp⟩
  ihave Hs := (send_start m ρ K c) $$ [HO Hbp Hx HtS HtR]
  · isplitr; · iexact HR
    isplitl [HO]; · iexact HO
    isplitl [Hbp]; · iexact Hbp
    isplitl [Hx]; · iexact Hx
    isplitl [HtS] <;> iassumption
  iapply (part4 m ρ K c v2 v71) $$ Hs; iintro %v106 %x4 Hs; dsimp only
  iapply (part5 m ρ K c v2 v106 x4) $$ Hs; iintro Hs
  iapply (part6 m ρ K c v2) $$ Hs; iintro Hs
  iapply (part7 m ρ K c v2) $$ Hs; iintro %v203 %x7 Hs; dsimp only
  iapply (part8 m ρ K c v2 v203 x7) $$ Hs; iintro %x8 Hs
  ihave Hrest := (recv_start (F := F) c) $$ [Hc0 HcR HaR]
  · isplitl [Hc0]; · iexact Hc0
    isplitl [HcR] <;> iassumption
  iapply (part9 m ρ K c v2 x8) $$ [Hs Hrest]
  · isplitl [Hs] <;> iassumption
  iintro ⟨Hs, HcS⟩
  iapply (part10 m ρ K c _) $$ [Hs Hw]
  · isplitl [Hs] <;> iassumption
  iintro ⟨Hs, Hw⟩
  iapply (part11 m ρ K c _) $$ [Hs Hw]
  · isplitl [Hs] <;> iassumption
  iintro ⟨Hs, Hw⟩
  iapply (part12 m ρ K c _) $$ [Hs Hw]
  · isplitl [Hs] <;> iassumption
  iintro ⟨Hs, Hw⟩
  iapply (part13 m ρ K c _ f) $$ [Hs HcS HaS Hw Ho]
  · isplitl [Hs]; · iexact Hs
    isplitl [HcS HaS]
    · isplitl [HcS] <;> iassumption
    isplitl [Hw] <;> iassumption
  iintro ⟨Hs, Hall, Hw, Ho⟩
  iapply (part14 m ρ K c) $$ Hs; iintro Hs
  iapply (step_drain m ρ K c 11 (by decide) (by decide) (send_sem rfl _) (credit_block _)) $$ Hs; iintro Hs
  iapply (step_drain m ρ K c 12 (by decide) (by decide) (send_sem rfl _) (credit_block _)) $$ Hs; iintro Hs
  iapply (step_drain m ρ K c 13 (by decide) (by decide) (send_sem rfl _) (credit_block _)) $$ Hs; iintro Hs
  iapply (step_drain m ρ K c 14 (by decide) (by decide) (send_sem rfl _) (credit_block _)) $$ Hs; iintro Hs
  iapply (step_drain m ρ K c 15 (by decide) (by decide) (send_sem rfl _) (credit_block _)) $$ Hs; iintro Hs
  iapply WP_ret_upd
  imod (finish m ρ K c) $$ [Hs Hall HzB Ha0] with ⟨Hb, Hz, HO, Hx⟩
  · isplitl [Hs]; · iexact Hs
    isplitl [Hall]; · iexact Hall
    isplitl [HzB] <;> iassumption
  imodintro
  iapply Hk
  unfold bodyDone
  isplitl [Hb]; · iexact Hb
  isplitl [Hz]; · iexact Hz
  isplitl [HO]; · iexact HO
  isplitl [Hx]; · iexact Hx
  isplitl [Hw]; · iexact Hw
  iexact Ho

end Cert.Exchange
-- ==== Proof.Launch.lean ====
/-
# The launch

The pipeline's proof data, the body obligation, what the launch deals every device, and the run: from any memory with
every semaphore at zero, the launch terminates, every semaphore is at zero again, the arguments are as they were and the
result array of device `c` is `outAt c`.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c` starts from, at some names of the cells' invariants. -/
def start (c : Dev nD) : sProp 𝕄 :=
  iprop((∃ K, records m ρ K ∗ linear (F := F) c) ∗ credits (F := F) c ∗ levAts L lv)
/-- What device `c` has before the body, the communication buffer at any contents; -/
def Φ₀ (c : Dev nD) : sProp 𝕄 := iprop(start m ρ c ∗ bAny (F := F) c)
/-- and after it, every semaphore at zero. -/
def Φ₁ (c : Dev nD) : sProp 𝕄 := iprop(bAny (F := F) c ∗ allZero (F := F) c)

/-- The pipeline's proof data: the windows' arrays as launched, the staged contents after the body, the debts. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- Every window's array is owned whole. -/
theorem share_eq (c : Dev nD) (w : Fin cfg0.W) : (dats m ρ 0 c).share w = fullShare := by unfold Dat.share; split <;> rfl

/-- A whole staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- To own a whole staging buffer is to have it at its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 65536 in
/-- What the body starts from, window by window; -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and what it ends with. -/
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (outAt m ρ c))

/-- What the pipeline hands over is what the body starts from; -/
theorem bodyPre_open (c : Dev nD) : bodyPre m ρ c ⊢ iprop(∃ K f, bodyStart m ρ K c ∗ oPts c f) := by
  unfold bodyPre Φ₀ start
  iintro ⟨⟨⟨⟨%K, HR, Hl⟩, Hcr, Hlev⟩, Hb⟩, Ho, ⟨%d0, %g0, %hg0, Hx⟩, ⟨%d1, %g1, %hg1, Hw⟩, ⟨%d2, %g2, -, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iexists K; iexists g2
  isplitr [Hout]
  · unfold bodyStart
    isplitl [HR]; · iexact HR
    isplitl [Hl]; · iexact Hl
    isplitl [Hcr]; · iexact Hcr
    isplitl [Hlev]; · iexact Hlev
    isplitl [HO]; · unfold owesSome; iexists W; iexact HO
    isplitl [Hb]; · iexact Hb
    isplitl [Hx]; · unfold xAll; iexact Hx
    unfold wPts; iexact Hw
  unfold oPts; iexact Hout

/-- and what the body leaves is what the pipeline takes back. -/
theorem bodyPost_intro (c : Dev nD) : bodyDone m ρ c ⊢ bodyPost m ρ c := by
  unfold bodyDone bodyPost Φ₁ Dat.owesAt Pipeline.owesWithin owesSome
  rw [show (dats m ρ 0 c).owed t0_0.succ = 0 from rfl]
  iintro ⟨Hb, Hz, ⟨%W, HO⟩, Hx, Hw, Ho⟩
  isplitl [Hb Hz]
  · isplitl [Hb] <;> iassumption
  isplitl [HO]
  · iexists W
    isplitr; · ipureintro; exact fun _ _ => Or.inl trivial
    iexact HO
  isplitl [Hx]
  · iexists _; isplitr; · (ipureintro; rfl)
    unfold xAll; iexact Hx
  isplitl [Hw]
  · iexists _; isplitr; · (ipureintro; rfl)
    unfold wPts; iexact Hw
  iexists _; isplitr; · (ipureintro; rfl)
  unfold oPts; iexact Ho

/-- The three windows, one by one. -/
theorem bigSep_W (Φ : Fin cfg0.W → sProp 𝕄) : bigSep Finset.univ Φ = iprop(Φ (0 : Fin 3) ∗ Φ (1 : Fin 3) ∗ Φ (2 : Fin 3)) := bigSep_W0 Φ

set_option maxRecDepth 65536 in
/-- The pipeline's obligation about the body on device `c`. -/
theorem body_obligation (c : Dev nD) : BodyObligation (dats (F := F) m ρ 0 c) (defs₀ (F := F)) 𝒱₀ () Set.univ := fun t => by
  rw [fin_N0 t]
  rw [bigSep_W, bigSep_W]
  simp only [owns_stg]
  show bodyPre m ρ c ⊢ wp frame (wpE (defs₀ (F := F)) 𝒱₀ c none) Set.univ (cc0_body xM (Memref.isWhole_whole _) wM (Memref.isWhole_whole _) oM (Memref.isWhole_whole _) bM (Memref.isWhole_whole _) cc0_scratch1 cc0_scratch2) (fun _ => bodyPost m ρ c)
  iintro H
  ihave H := (bodyPre_open m ρ c) $$ H
  icases H with ⟨%K, %f, H⟩
  iapply (sound_body m ρ K c f) $$ H
  iintro H
  iapply (bodyPost_intro m ρ c); iexact H

/-! ## What the launch deals -/

/-- The kernel's own semaphores are the send and the receive arrays. -/
theorem ownSemFacts : Pipeline.OwnSemFacts cfg0.spec osem := by decide

/-- The semaphores of the exchange are different ones, -/
theorem csem_injective : Function.Injective csem := by decide
/-- on every device. -/
theorem kcell_injective : Function.Injective (kcell : Dev nD × CIx → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
/-- The cells of the exchange. -/
def exCells : Finset (GSem nD τ sig) := Finset.univ.map ⟨kcell, kcell_injective⟩

/-- The duties of a device's own cells: one of its barrier for every device, one of every send and receive cell. -/
abbrev TIx : Type := Dev nD ⊕ OIx
/-- The cell, round and payer of a duty. -/
abbrev tokOf (ct : Dev nD × TIx) : GSem nD τ sig × ℕ × Dev nD := match ct.2 with
  | .inl p => (barCell ct.1, 0, p)
  | .inr o => (kcell (ct.1, .inr o), 0, 0)
/-- Different duties have different tokens. -/
theorem tokOf_injective : Function.Injective (tokOf : Dev nD × TIx → GSem nD τ sig × ℕ × Dev nD) := by
  rintro ⟨c, p | o⟩ ⟨c', p' | o'⟩ h
  · have h1 := congrArg (fun x : GSem nD τ sig × ℕ × Dev nD => x.1.1.1) h
    have h2 := congrArg (fun x : GSem nD τ sig × ℕ × Dev nD => x.2.2) h
    dsimp only at h1 h2; rw [h1, h2]
  · have h1 := kcell_injective (a₁ := (c, .inl ())) (a₂ := (c', .inr o')) (congrArg Prod.fst h)
    cases congrArg Prod.snd h1
  · have h1 := kcell_injective (a₁ := (c, .inr o)) (a₂ := (c', .inl ())) (congrArg Prod.fst h)
    cases congrArg Prod.snd h1
  · have h1 := kcell_injective (a₁ := (c, .inr o)) (a₂ := (c', .inr o')) (congrArg Prod.fst h)
    injection h1 with h1 h2
    injection h2 with h2
    rw [h1, h2]
/-- The duty tokens of the exchange. -/
def exToks : Finset (GSem nD τ sig × ℕ × Dev nD) := Finset.univ.map ⟨tokOf, tokOf_injective⟩

/-- The launch's element of the resource algebra: the pipeline's and the rounds'. -/
def u₀ : UU :=
  (initOf (Pipeline.cells cfgs cellOf_inj) (Pipeline.launchToks cfgs cellOf_inj), initOf exCells exToks)

/-- The duty tokens of device `c`'s own cells. -/
def toks (c : Dev nD) : sProp 𝕄 :=
  bigSep Finset.univ fun t : TIx => dutyTok ER (tokOf (c, t)).1 (tokOf (c, t)).2.1 (tokOf (c, t)).2.2

/-- What the launch element deals device `c`; -/
def G (c : Dev nD) : sProp 𝕄 :=
  iprop((bigSep Finset.univ fun k : CIx => roundState ER (exRd m ρ) (kcell (c, k)) 0)
    ∗ ((bigSep Finset.univ fun k : CIx => atPos ER (kcell (c, k)) 0 ∅ 0) ∗ (bigSep Finset.univ fun k : CIx => reached ER (kcell (c, k)) 0)) ∗ toks (F := F) c)
/-- and what the global step makes of it. -/
def G' (c : Dev nD) : sProp 𝕄 := iprop(∃ K, records m ρ K ∗ linear (F := F) c)

/-- The cells of the exchange, device by device. -/
theorem over_exCells (Φ : GSem nD τ sig → sProp 𝕄) :
    bigSep exCells Φ = bigSep Finset.univ fun c : Dev nD => bigSep Finset.univ fun k : CIx => Φ (kcell (c, k)) := by
  unfold exCells; rw [bigSep_map, bigSep_univ_prod]; rfl
/-- The duty tokens, device by device. -/
theorem over_exToks : bigSep exToks (fun x => (dutyTok ER x.1 x.2.1 x.2.2 : sProp 𝕄)) = bigSep Finset.univ fun c : Dev nD => toks (F := F) c := by
  unfold exToks toks; rw [bigSep_map, bigSep_univ_prod]; rfl

/-- The rounds' element makes every device's share. -/
theorem fund_exchange : BI.own (ER (initOf exCells exToks)) ⊢ (|==> bigSep Finset.univ (G m ρ) : sProp 𝕄) := by
  iintro HX
  imod (Rounds.fund ER (exRd m ρ) exCells exToks) $$ HX with ⟨Hst, Hr, Hat, Htok⟩
  imodintro
  ihave Hst' := (Entails.of_eq (over_exCells fun g => roundState ER (exRd m ρ) g 0)) $$ Hst
  ihave Hat' := (Entails.of_eq (over_exCells (F := F) fun g => atPos ER g 0 ∅ 0)) $$ Hat
  ihave Hr' := (Entails.of_eq (over_exCells (F := F) fun g => reached ER g 0)) $$ Hr
  ihave Htok' := (Entails.of_eq (over_exToks (F := F))) $$ Htok
  unfold G; simp only [bigSep_sep']
  isplitl [Hst']; · iexact Hst'
  isplitl [Hat' Hr']
  · isplitl [Hat'] <;> iassumption
  iexact Htok'

/-- The barrier's semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of a device: the barrier's and the kernel's own. -/
theorem allZero_own (c : Dev nD) : allZero (F := F) c
    = iprop(semVal (barCell c) 0 ∗ Pipeline.ownSems0 (Ix := Unit) (Name := ℕ) (U := UU) (Lvl := ℕ) (Val := Elt F) (τ := τ) osem c) := by
  unfold allZero Pipeline.ownSems0
  rw [bigSep_univ_sum (fun ix : CIx => semVal (kcell (c, ix)) 0), Finset.univ_unique (α := Unit), bigSep_singleton]; rfl

/-- Every cell of one device becomes an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ ((bigSep Finset.univ fun k : CIx => atPos ER (kcell (c, k)) 0 ∅ 0) ∗ (bigSep Finset.univ fun k : CIx => reached ER (kcell (c, k)) 0)) ∗ toks (F := F) c) := by
  unfold G
  iintro ⟨Hos, Hus, Hst, Hat, Htok⟩
  ihave Hv := (Entails.of_eq (allZero_own (F := F) c).symm) $$ [Hos Hus]
  · isplitl [Hus]
    · iapply (Entails.of_eq (unscopedSems0_eq (F := F) c)); iexact Hus
    iexact Hos
  imod (show iprop(allZero (F := F) c ∗ bigSep Finset.univ fun k : CIx => roundState ER (exRd m ρ) (kcell (c, k)) 0)
      ⊢ (|={Set.univ}=> bigSep Finset.univ fun k => iprop(∃ κ : ℕ, cellInv ER (exRd m ρ) κ (kcell (c, k))) : sProp 𝕄) from by
        unfold allZero
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's tokens one kind after the other. -/
theorem toks_kinds (c : Dev nD) : toks (F := F) c = iprop((bigSep Finset.univ fun p : Dev nD => dutyTok ER (barCell c) 0 p)
    ∗ (bigSep Finset.univ fun d : Fin 16 => dutyTok ER (sendCell c d) 0 0) ∗ bigSep Finset.univ fun s : Dev nD => dutyTok ER (recvCell c s) 0 0) := by
  unfold toks; rw [bigSep_univ_sum, bigSep_univ_sum]; rfl

/-- All barrier tokens, dealt to the devices that pay them; -/
theorem bar_around : (bigSep Finset.univ fun c : Dev nD => bigSep Finset.univ fun p : Dev nD => (dutyTok ER (barCell c) 0 p : sProp 𝕄))
    = bigSep Finset.univ fun p : Dev nD => iprop(dutyTok ER (barCell p) 0 p ∗ bigSep (rangeSet 16 1 16) fun d => dutyTok ER (barCell (peer p d)) 0 p) := by
  rw [bigSep_univ_comm]
  exact bigSep_congr fun p _ => around p fun c => dutyTok ER (barCell c) 0 p

/-- and all receive tokens. -/
theorem recv_around : (bigSep Finset.univ fun c : Dev nD => bigSep Finset.univ fun s : Dev nD => (dutyTok ER (recvCell c s) 0 0 : sProp 𝕄))
    = bigSep Finset.univ fun s : Dev nD => bigSep Finset.univ fun d : Fin 16 => dutyTok ER (recvCell (peer s d) s) 0 0 := by
  rw [bigSep_univ_comm]
  exact bigSep_congr fun s _ => bigSep_univ_equiv (peers s) fun c => dutyTok ER (recvCell c s) 0 0

/-- The tokens dealt to the devices that pay them. -/
theorem toks_around : (bigSep Finset.univ fun c : Dev nD => toks (F := F) c) ⊢ bigSep Finset.univ fun c : Dev nD => payToks (F := F) c := by
  have e1 : (bigSep Finset.univ fun c : Dev nD => toks (F := F) c) = iprop((bigSep Finset.univ fun c : Dev nD => bigSep Finset.univ fun p : Dev nD => dutyTok ER (barCell c) 0 p)
      ∗ (bigSep Finset.univ fun c : Dev nD => iprop(dutyTok ER (sendCell c 0) 0 0 ∗ bigSep (rangeSet 16 1 16) fun d => dutyTok ER (sendCell c d) 0 0))
      ∗ bigSep Finset.univ fun c : Dev nD => bigSep Finset.univ fun s : Dev nD => dutyTok ER (recvCell c s) 0 0) := by
    rw [← bigSep_sep', ← bigSep_sep']
    exact bigSep_congr fun c _ => by rw [toks_kinds, univ_head (fun d => dutyTok ER (sendCell c d) 0 0)]
  rw [e1, bar_around, recv_around, bigSep_sep', bigSep_sep']
  unfold payToks
  rw [bigSep_sep', bigSep_sep']
  iintro ⟨⟨-, H1⟩, ⟨-, H2⟩, H3⟩
  isplitl [H1]; · iexact H1
  isplitl [H3] <;> iassumption

/-- The records of all cells from their invariants and their having reached round 0. -/
theorem records_intro (K : Dev nD × CIx → ℕ) :
    iprop((bigSep Finset.univ fun ck : Dev nD × CIx => cellInv ER (exRd m ρ) (K ck) (kcell ck)) ∗ bigSep Finset.univ fun ck : Dev nD × CIx => reached ER (kcell ck) 0)
      ⊢ records m ρ K := by
  unfold records; rw [bigSep_sep']

/-- A device's share from the records and its own part. -/
theorem give_records (K : Dev nD × CIx → ℕ) (c : Dev nD) : iprop(records m ρ K ∗ linear (F := F) c) ⊢ G' m ρ c := by
  unfold G'; iintro H; iexists K; iexact H

/-- The shares of all devices regrouped. -/
theorem regroup :
    (bigSep Finset.univ fun c : Dev nD => iprop((bigSep Finset.univ fun k => iprop(∃ κ : ℕ, cellInv ER (exRd m ρ) κ (kcell (c, k))))
          ∗ ((bigSep Finset.univ fun k : CIx => atPos ER (kcell (c, k)) 0 ∅ 0) ∗ (bigSep Finset.univ fun k : CIx => reached ER (kcell (c, k)) 0)) ∗ toks (F := F) c) : sProp 𝕄)
      ⊢ bigSep Finset.univ (G' m ρ) := by
  rw [bigSep_sep', bigSep_sep', bigSep_sep', ← bigSep_univ_prod (fun ck : Dev nD × CIx => iprop(∃ κ : ℕ, cellInv ER (exRd m ρ) κ (kcell ck))),
    ← bigSep_univ_prod (fun ck : Dev nD × CIx => (reached ER (kcell ck) 0 : sProp 𝕄))]
  iintro ⟨HI, ⟨Hat, HR⟩, Htok⟩
  ihave HK := (BI.bigSep_exists_pi Finset.univ (fun (ck : Dev nD × CIx) (κ : ℕ) => (cellInv ER (exRd m ρ) κ (kcell ck) : sProp 𝕄))) $$ HI
  icases HK with ⟨%K, HI⟩
  ihave Htk := (toks_around (F := F)) $$ Htok
  iapply (bigSep_with_persistent (R := records m ρ K) fun c _ => give_records m ρ K c)
  isplitl [HI HR]
  · iapply (records_intro m ρ K); isplitl [HI] <;> iassumption
  · unfold linear
    iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

/-- The global step: the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- A sum of tallies, read at a cell. -/
theorem sum_tally_apply {ι : Type} (s : Finset ι) (cell : ι → GSem nD τ sig) (n : ℕ) (g : GSem nD τ sig) :
    (∑ d ∈ s, (tallyAt (cell d) () n : CellTallies nD τ sig Unit)) g () = ∑ d ∈ s, if g = cell d then n else 0 := by
  classical
  induction s using Finset.induction_on with
  | empty => rw [Finset.sum_empty, Finset.sum_empty]; rfl
  | insert a s ha ih =>
    rw [Finset.sum_insert ha, Finset.sum_insert ha, Pi.add_apply, Finsupp.add_apply, tallyAt_apply, ih]
    simp only [and_true]

/-- A barrier is no receive semaphore. -/
theorem bar_ne_recv (c c' s : Dev nD) : barCell c ≠ recvCell c' s := fun h => by cases congrArg Prod.snd h
/-- A barrier belongs to one device. -/
theorem bar_eq {a b : Dev nD} (h : barCell a = barCell b) : a = b := congrArg (fun g : GSem nD τ sig => g.1.1) h
/-- A receive semaphore belongs to one device and one sender. -/
theorem recv_eq {a b s s' : Dev nD} (h : recvCell a s = recvCell b s') : a = b ∧ s = s' := by
  have := kcell_injective (a₁ := (a, .inr (.inr s))) (a₂ := (b, .inr (.inr s'))) h
  injection this with h1 h2
  injection h2 with h2
  injection h2 with h2
  exact ⟨h1, h2⟩

/-- How often a device is among another's peers. -/
theorem count_peer (d c : Dev nD) (n : ℕ) : (∑ j ∈ rangeSet 16 1 16, if c = peer d j then n else 0) = if d = c then 0 else n := by
  have e : (∑ j ∈ rangeSet 16 1 16, if c = peer d j then n else 0) = ∑ p ∈ Finset.univ.erase d, if c = p then n else 0 := by
    rw [others_eq, Finset.sum_map]; rfl
  rw [e, Finset.sum_ite_eq]
  by_cases h : d = c
  · rw [if_pos h, if_neg (by rw [h]; exact Finset.notMem_erase _ _)]
  · rw [if_neg h, if_pos (Finset.mem_erase.mpr ⟨fun e => h e.symm, Finset.mem_univ _⟩)]

/-- A transfer owes a barrier nothing. -/
theorem owedR_bar (d c : Dev nD) : owedR d 1 (barCell c) () = 0 := by
  unfold owedR; rw [sum_tally_apply]; exact Finset.sum_eq_zero fun j _ => if_neg (bar_ne_recv _ _ _)
/-- The signals owe every other device's barrier one unit. -/
theorem owedB_bar (d c : Dev nD) : owedB d 1 (barCell c) () = if d = c then 0 else 1 := by
  unfold owedB; rw [sum_tally_apply, ← count_peer]
  exact Finset.sum_congr rfl fun j _ => if_congr ⟨bar_eq, fun h => by rw [h]⟩ rfl rfl
/-- A signal owes a receive semaphore nothing. -/
theorem owedB_recv (d c s : Dev nD) : owedB d 1 (recvCell c s) () = 0 := by
  unfold owedB; rw [sum_tally_apply]; exact Finset.sum_eq_zero fun j _ => if_neg (bar_ne_recv _ _ _).symm
/-- How often a receive cell is among those a device owes. -/
theorem count_recv (d c s : Dev nD) (n : ℕ) (h : s ≠ c) :
    (∑ j ∈ rangeSet 16 1 16, if recvCell c s = recvCell (peer d j) d then n else 0) = if d = s then n else 0 := by
  by_cases hd : d = s
  · have e : ∀ j ∈ rangeSet 16 1 16, (if recvCell c s = recvCell (peer d j) d then n else 0) = if c = peer d j then n else 0 := fun j _ => by
      by_cases hj : c = peer d j
      · rw [if_pos hj, if_pos (by rw [hd] at hj ⊢; exact congrArg (fun x => recvCell x s) hj)]
      · rw [if_neg hj, if_neg (fun h => hj (recv_eq h).1)]
    rw [Finset.sum_congr rfl e, count_peer, if_pos hd, if_neg (by rw [hd]; exact h)]
  · rw [if_neg hd]
    exact Finset.sum_eq_zero fun j _ => if_neg fun h => hd (recv_eq h).2.symm
/-- The transfers owe a receive semaphore a block's credit when it waits for this device's block. -/
theorem owedR_recv (d c s : Dev nD) (h : s ≠ c) : owedR d 1 (recvCell c s) () = if d = s then N else 0 := by
  unfold owedR; rw [sum_tally_apply]; exact count_recv d c s N h

/-- What a device owes another's barrier, -/
theorem owed_bar (d c : Dev nD) : O₀ d (barCell c) () = if d = c then 0 else 1 := by
  unfold O₀ owed
  rw [Pi.add_apply, Finsupp.add_apply, owedR_bar, owedB_bar, Nat.zero_add]
/-- and what it owes another's receive cells. -/
theorem owed_recv (d c s : Dev nD) (h : s ≠ c) : O₀ d (recvCell c s) () = if d = s then N else 0 := by
  unfold O₀ owed
  rw [Pi.add_apply, Finsupp.add_apply, owedB_recv, owedR_recv d c s h, Nat.add_zero]

/-- At launch a device's barrier has fifteen units of credit. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- At launch a receive semaphore for another device's block has a block's credit. -/
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => N,
    if_pos (Finset.mem_univ _)]

/-- The semaphores of the receive cells from the other devices. -/
def recvSems (c : Dev nD) : Finset (SemLoc sig) :=
  (Finset.univ.erase c).map ⟨fun s => .dma (recvS s), fun a b h => by
    have := csem_injective (a₁ := .inr (.inr a)) (a₂ := .inr (.inr b)) h
    injection this with h; injection h⟩
/-- None of them is the barrier. -/
theorem recvSems_subset (c : Dev nD) : recvSems c ⊆ Finset.univ.erase (SemLoc.reg barS) := fun sm h => by
  obtain ⟨s, -, rfl⟩ := Finset.mem_map.mp h
  exact Finset.mem_erase.mpr ⟨(fun h => by cases h), Finset.mem_univ _⟩

/-- The receive cells' credits, out of those of all the device's cells but the barrier. -/
theorem creds_recv (c : Dev nD) :
    (bigSep (Finset.univ.erase (SemLoc.reg barS)) fun sm => (cred (tallyOn ((c : Thread nD τ), sm) (launchCredit (Pipeline.owing O₀) 0 ((c : Thread nD τ), sm))) : sProp 𝕄))
      ⊢ bigSep (Finset.univ.erase c) fun s => cred (tallyAt (recvCell c s) () N) := by
  refine (bigSep_subset (recvSems_subset c)).trans ?_
  unfold recvSems
  rw [bigSep_map]
  exact bigSep_mono fun s hs => Entails.of_eq (congrArg cred (launch_recv c s (Finset.mem_erase.mp hs).1))

/-- The launch's credit holds what device `c` needs for its waits. -/
theorem creds (c : Dev nD) : (Pipeline.launchCred O₀ c : sProp 𝕄) ⊢ credits (F := F) c := by
  unfold Pipeline.launchCred credits
  rw [bigSep_univ_at _ (SemLoc.reg barS), launch_bar]
  exact sep_mono_right (creds_recv c)

/-! ## The side conditions -/

/-- What the launch and the global step give device `c` is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the communication buffer it is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bAny
  iintro ⟨Hs, -, Hr⟩
  isplitl [Hs] <;> iassumption

/-- What the body ends with gives the semaphores back at zero, and the buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ bAny
  rw [allZero_own, unscopedSems0_eq]
  iintro ⟨Hb, Hu, Ho⟩
  isplitl [Hu]; · iexact Hu
  isplitl [Ho] <;> iassumption

/-- The staging semaphores are at level zero. -/
theorem lv_low (c : Dev nD) (q : DmaSem sig) (h : q.val < 3) : lv ((c : Thread nD τ), .dma q) () = 0 := by
  have e : ∀ q : DmaSem sig, q.val < 3 → kind (.dma q) = .other := by decide
  dsimp only [lv]; rw [e q h]

/-- The pipeline's own waits lie below every debt. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_low c _ (by fin_cases w <;> fin_cases s <;> decide)) _ (by
      rcases t with ⟨_ | _, ht⟩
      · exact Or.inl rfl
      · exact Or.inr rfl)

/-! ## The run -/

/-- The contents of a window's array after the launch. -/
def finalA (c : Dev nD) (w : Fin cfg0.W) : Buf (Elt F) ((cfg0.win w).arr.view.loc (c : Thread nD τ)) := (dats m ρ 0 c).arrAt w cfg0.N

/-- Every window's array, on every device, is as the proof data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, for any float values, every weakly fair run of the launch terminates, every
    window's array is as the proof data say, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments' arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The same for the second argument. -/
theorem finalA_w (c : Dev nD) : finalA m ρ c (1 : Fin 3) = (s₀ m ρ).mem (win0_1.arr.view.loc (c : Thread nD τ)) :=
  (dats (F := F) m ρ 0 c).arrAt_in (1 : Fin 3) rfl _

/-- The run with the arguments read back: both are as they were, and every semaphore is at zero. -/
theorem run_kept : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 0).trans (finalA_x m ρ c), (h.1 c 1).trans (finalA_w m ρ c)⟩, h.2⟩) (run_main m ρ)

end Cert.Exchange
-- ==== Proof.Value.lean ====
/-
# The value

At the ideal values the result of device `c` is its block of rows of `y / (1 + exp (−y))`, `y` the product of the whole
operands: the blocks that landed are columns of the rows `64 c … 64 c + 63` of `x`, four groups of them times four
groups of rows of `w` add up to the product, and `y · logistic y` is `y / (1 + exp (−y))`.
-/
module

public import proofs.«01_k».proof.Proof.Launch
public import Idealize.ShloMosaic.PureOps.Ideal
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.Exchange

open Cert.KernelIdeal Cert.KernelIdeal.Gen
open Idealize.ShloMosaic
open Idealize.ShloMosaic.TcCoe
open Idealize.ShloMosaic.ValueIdx (ix2 eq_ix2)
open scoped BigOperators

/-! ## The result array -/

section Array

variable {F : FTy → Type} [FloatOps F]
variable (m : (ℓ : Loc nD τ sig) → Buf (Elt F) ℓ) (ρ : Dev nD → PrngReg)

/-- The output's only block starts at the origin. -/
theorem out_origin : (fun a => win0_2.index (0 : Fin 1) a * main_v1.ty.shape.size a) = fun _ => 0 :=
  funext fun a => by fin_cases a <;> decide

/-- The write-back carries the whole result. -/
theorem flushed_out (c : Dev nD) (t : Fin cfg0.N) (hf : (cfg0.win 2).flush t = true) :
    (dats m ρ 0 c).flushed 2 t = ((cfg0.win 2).blk t).view.read (Elt F) (outAt m ρ c) := by
  obtain rfl : t = (0 : Fin 1) := Subsingleton.elim (α := Fin 1) t 0
  show outAt m ρ c = _
  exact (Memref.read_access_unit_zero (Elt F) main_v1 out_origin (fun a => by rw [congrFun out_origin a]; simp) (outAt m ρ c)).symm

/-- After the launch the result array of device `c` holds `outAt`. -/
theorem finalA_out (c : Dev nD) : finalA m ρ c (2 : Fin 3) = outAt m ρ c :=
  (dats m ρ 0 c).arrAt_eq_of_cover 2 (outAt m ρ c) (flushed_out m ρ c) fun i =>
    ⟨(0 : Fin 1), flush0_2 _, by
      show i ∈ ((View.whole main_v1).slice (win0_2.rect (0 : Fin 1))).set
      rw [View.set_slice_whole, Rect.mem_set_unit]
      intro a
      have e : win0_2.index (0 : Fin 1) a * win0_2.size a = 0 := by fin_cases a <;> decide
      have f : win0_2.xsize (grid0.coords (0 : Fin 1)) a = main_v1.ty.shape.size a := by fin_cases a <;> decide
      have h := (i a).isLt
      exact ⟨by show win0_2.index (0 : Fin 1) a * win0_2.size a ≤ _; rw [e]; exact Nat.zero_le _,
        by show _ < win0_2.index (0 : Fin 1) a * win0_2.size a + win0_2.xsize (grid0.coords (0 : Fin 1)) a; rw [e, f, Nat.zero_add]; exact h⟩⟩

/-- The staged `x` is the argument. -/
theorem xstg_eq (c : Dev nD) : xstg m ρ c = m ((c : Thread nD τ).loc main_arg0) :=
  Memref.read_access_unit_zero (Elt F) main_arg0 (funext fun a => by fin_cases a <;> decide) _ _

/-- The staged `w` is the argument. -/
theorem wstg_eq (c : Dev nD) : wstg m ρ c = m ((c : Thread nD τ).loc main_arg1) :=
  Memref.read_access_unit_zero (Elt F) main_arg1 (funext fun a => by fin_cases a <;> decide) _ _

/-- Row `k` of the group of rows of `w` starting at row `o`. -/
theorem wRows_apply (c : Dev nD) {off : Fin S1024x1024.rank → ℕ} {o : ℕ} (ho : off = ![o, 0]) (inb) (k : Fin 256) (n : Fin 1024) (hk : o + k.val < 1024) :
    wRows m ρ c off inb (ix2 k n) = m ((c : Thread nD τ).loc main_arg1) (ix2 ⟨o + k.val, hk⟩ n) := by
  subst ho
  rw [← wstg_eq m ρ c]
  show wstg m ρ c _ = wstg m ρ c _
  congr 1
  funext a
  apply Fin.ext
  match a with
  | ⟨0, _⟩ => show o + 1 * k.val = o + k.val; omega
  | ⟨1, _⟩ => show 0 + 1 * n.val = n.val; omega

/-- Entry `(i, j)` of slot `s` of device `c` is entry `(64 c + i, j)` of the argument of device `s`. -/
theorem slotVal_apply (c s : Dev nD) (i j : Fin 64) (r : Fin 1024) (hr : r.val = 64 * c.val + i.val) :
    slotVal m ρ c s (ix2 i j) = m ((s : Thread nD τ).loc main_arg0) (ix2 r j) := by
  rw [← xstg_eq m ρ s]
  have e0 : ((bSlot s).view.emb (ix2 i j)) 0 = (⟨64 * s.val + i.val, by have := dev_lt s; have := i.isLt; omega⟩ : Fin 1024) :=
    Fin.ext (show 64 * s.val + 1 * i.val = 64 * s.val + i.val by omega)
  have e1 : ((bSlot s).view.emb (ix2 i j)) 1 = (⟨j.val, j.isLt⟩ : Fin 64) := Fin.ext (show 0 + 1 * j.val = j.val by omega)
  show xstg m ρ (srcDev (((bSlot s).view.emb (ix2 i j)) 0)) (ix2 (srcRow c (((bSlot s).view.emb (ix2 i j)) 0)) (((bSlot s).view.emb (ix2 i j)) 1)) = _
  rw [e0, e1]
  have hd : srcDev ⟨64 * s.val + i.val, by have := dev_lt s; have := i.isLt; omega⟩ = s :=
    Fin.ext (show (64 * s.val + i.val) / 64 = s.val by have := i.isLt; omega)
  have hw : srcRow c ⟨64 * s.val + i.val, by have := dev_lt s; have := i.isLt; omega⟩ = r :=
    Fin.ext (show 64 * c.val + (64 * s.val + i.val) % 64 = r.val by have := i.isLt; omega)
  rw [hd, hw]

end Array

/-- Sixteen blocks of columns make the whole operand. -/
theorem tiles_cols : Layout.Tiles ⟨2, ![1024, 64]⟩ ⟨2, ![1024, 1024]⟩ 1 16 := by decide

/-! ## One group of the product -/

/-- Four blocks side by side, read at a column. -/
theorem cat_apply {α : Type} (b : Fin 4 → (S64x64.Idx → α)) (h) (i : Fin 64) (k : Fin 256) :
    concatenate S64x256 1 [⟨S64x64, b 0⟩, ⟨S64x64, b 1⟩, ⟨S64x64, b 2⟩, ⟨S64x64, b 3⟩] h (ix2 i k)
      = b ⟨k.val / 64, by omega⟩ (ix2 i ⟨k.val % 64, by omega⟩) := by
  have key : ∀ q : Fin 4, k.val / 64 = q.val →
      concatenate S64x256 1 [⟨S64x64, b 0⟩, ⟨S64x64, b 1⟩, ⟨S64x64, b 2⟩, ⟨S64x64, b 3⟩] h (ix2 i k) = b q (ix2 i ⟨k.val % 64, by omega⟩) := by
    intro q hq
    refine concatenate_apply_piece (1 : Fin 2) [⟨S64x64, b 0⟩, ⟨S64x64, b 1⟩, ⟨S64x64, b 2⟩, ⟨S64x64, b 3⟩] h (ix2 i k) q.val q.isLt S64x64 (b q) (by fin_cases q <;> rfl) rfl (64 * q.val)
      (by fin_cases q <;> rfl) (ix2 i ⟨k.val % 64, by omega⟩) (fun a ha => ?_) ?_
    · match a with
      | ⟨0, _⟩ => rfl
      | ⟨1, _⟩ => exact absurd rfl ha
    · show 64 * q.val + k.val % 64 = k.val
      omega
  exact key ⟨k.val / 64, by omega⟩ rfl

/-- One group: the accumulator plus four blocks side by side times the group's rows of `w`. -/
theorem group_apply (acc : FVec Ideal S64x1024 .f32) (b : Fin 4 → Vec Ideal S64x64 .f32) (w : Vec Ideal S256x1024 .f32) (i : Fin 64) (n : Fin 1024) :
    k0_pay2 acc (b 0) (b 1) (b 2) (b 3) w (ix2 i n)
      = acc (ix2 i n) + ∑ k : Fin 256, (b ⟨k.val / 64, by omega⟩ (ix2 i ⟨k.val % 64, by omega⟩) : EReal) * w (ix2 k n) := by
  unfold k0_pay2
  rw [shapeCast_self]
  refine congrArg (acc (ix2 i n) + ·) ?_
  refine (Ideal.matmul_plain_apply (M := 64) (K := 256) (N := 1024) (φ₁ := .f32) (φ₂ := .f32) none _ w (constant S64x1024 .f32 0x00000000#32) i n).trans ?_
  show Ideal.ofBits .f32 0x00000000#32 + _ = _
  rw [Ideal.ofBits_zero_f32, zero_add]
  exact Finset.sum_congr rfl fun k _ => congrArg (· * w (ix2 k n)) (cat_apply b _ i k)

/-! ## The whole product -/

section Product

variable (m : (ℓ : Loc nD τ sig) → Buf (Elt Ideal) ℓ) (ρ : Dev nD → PrngReg)
variable (X W : (⟨2, ![1024, 1024]⟩ : Shape).Idx → EReal)

/-- The term of the product at row `r`, column `n`, for the contracted position `k`. -/
def prodTerm (r n : Fin 1024) (k : ℕ) : EReal := if h : k < 1024 then X (ix2 r ⟨k, h⟩) * W (ix2 ⟨k, h⟩ n) else 0

/-- The product at row `r`, column `n`. -/
def prod (r n : Fin 1024) : EReal := ∑ k : Fin 1024, X (ix2 r k) * W (ix2 k n)

/-- The product as a sum over the numbers below 1024. -/
theorem prod_eq (r n : Fin 1024) : prod X W r n = ∑ k ∈ Finset.range 1024, prodTerm X W r n k := by
  rw [Finset.sum_range]
  exact Finset.sum_congr rfl fun k _ => by unfold prodTerm; rw [dif_pos k.isLt]

variable (hx : ∀ c : Dev nD, m ((c : Thread nD τ).loc main_arg0) = Layout.block ⟨2, ![1024, 64]⟩ ⟨2, ![1024, 1024]⟩ 1 16 c X tiles_cols)
variable (hw : ∀ c : Dev nD, m ((c : Thread nD τ).loc main_arg1) = W)

include hx hw

/-- A group's sum is the product's terms over the group's positions. -/
theorem group_sum (c : Dev nD) (i : Fin 64) (n r : Fin 1024) (hr : r.val = 64 * c.val + i.val) (g : ℕ) (hg : g < 4) (b : Fin 4 → Vec Ideal S64x64 .f32)
    (hb : ∀ q : Fin 4, b q = slotVal m ρ c ⟨4 * g + q.val, by show 4 * g + q.val < 16; omega⟩) {off : Fin S1024x1024.rank → ℕ} (ho : off = ![256 * g, 0]) (inb)
    (acc : FVec Ideal S64x1024 .f32) (s : EReal) (hs : acc (ix2 i n) = s) :
    k0_pay2 acc (b 0) (b 1) (b 2) (b 3) (wRows m ρ c off inb) (ix2 i n) = s + ∑ k ∈ Finset.range 256, prodTerm X W r n (256 * g + k) := by
  rw [group_apply, hs, Finset.sum_range]
  refine congrArg (s + ·) (Finset.sum_congr rfl fun k _ => ?_)
  have hk := k.isLt
  have hlt : 256 * g + k.val < 1024 := by omega
  rw [hb, slotVal_apply m ρ c _ i _ r hr, wRows_apply m ρ c ho inb k n hlt, hx, hw, Layout.block_apply]
  unfold prodTerm
  rw [dif_pos hlt]
  congr 2
  funext a
  apply Fin.ext
  match a with
  | ⟨0, _⟩ => rfl
  | ⟨1, _⟩ => show (4 * g + k.val / 64) * 64 + k.val % 64 = 256 * g + k.val; omega

/-- The four groups, one after another from zero, are the whole product. -/
theorem total (c : Dev nD) (i : Fin 64) (n r : Fin 1024) (hr : r.val = 64 * c.val + i.val) :
    k0_pay2 (accAt m ρ c) (slotVal m ρ c ⟨12, by decide⟩) (slotVal m ρ c ⟨13, by decide⟩) (slotVal m ρ c ⟨14, by decide⟩) (slotVal m ρ c ⟨15, by decide⟩)
      (wRows m ρ c ![768, 0] inb_S1024x1024_S256x1024_768_0) (ix2 i n) = prod X W r n := by
  have h0 : (k0_pay1 (F := Ideal)) (ix2 i n) = (0 : EReal) := Ideal.ofBits_zero_f32
  let B (g : ℕ) (hg : g < 4) (q : Fin 4) : Vec Ideal S64x64 .f32 := slotVal m ρ c ⟨4 * g + q.val, by show 4 * g + q.val < 16; omega⟩
  have h1 := group_sum m ρ X W hx hw c i n r hr 0 (by decide) (B 0 (by decide)) (fun _ => rfl) rfl inb_S1024x1024_S256x1024_0_0 _ _ h0
  have h2 := group_sum m ρ X W hx hw c i n r hr 1 (by decide) (B 1 (by decide)) (fun _ => rfl) rfl inb_S1024x1024_S256x1024_256_0 _ _ h1
  have h3 := group_sum m ρ X W hx hw c i n r hr 2 (by decide) (B 2 (by decide)) (fun _ => rfl) rfl inb_S1024x1024_S256x1024_512_0 _ _ h2
  have h4 := group_sum m ρ X W hx hw c i n r hr 3 (by decide) (B 3 (by decide)) (fun _ => rfl) rfl inb_S1024x1024_S256x1024_768_0 _ _ h3
  refine Eq.trans h4 ?_
  rw [prod_eq, show (1024 : ℕ) = 256 + 256 + 256 + 256 from rfl, Finset.sum_range_add, Finset.sum_range_add, Finset.sum_range_add, zero_add]
  simp only [Nat.mul_zero, Nat.zero_add, Nat.mul_one, Nat.reduceMul, Nat.reduceAdd]

end Product

/-! ## The activation -/

/-- `y · (1 / (1 + exp (−y)))` is `y / (1 + exp (−y))`: the divisor is not zero. -/
theorem silu_eq (y : EReal) : y * Ideal.logistic y = Ideal.div y (1 + Ideal.exp (-y)) := by
  have hpos : (0 : EReal) ≤ Ideal.exp (-y) := by
    generalize -y = z
    induction z with
    | bot => exact le_refl _
    | top => exact le_top
    | coe r => exact EReal.coe_nonneg.mpr (Real.exp_pos r).le
  have hne : 1 + Ideal.exp (-y) ≠ 0 := fun h => absurd (le_of_le_of_eq (le_add_of_nonneg_right hpos) h) (not_le.mpr zero_lt_one)
  unfold Ideal.logistic Ideal.div
  rw [if_neg hne, if_neg hne, one_mul]

/-- The kernel's result on device `c` at row `i`, column `n`. -/
theorem outAt_apply (m : (ℓ : Loc nD τ sig) → Buf (Elt Ideal) ℓ) (ρ : Dev nD → PrngReg) (X W : (⟨2, ![1024, 1024]⟩ : Shape).Idx → EReal)
    (hx : ∀ c : Dev nD, m ((c : Thread nD τ).loc main_arg0) = Layout.block ⟨2, ![1024, 64]⟩ ⟨2, ![1024, 1024]⟩ 1 16 c X tiles_cols)
    (hw : ∀ c : Dev nD, m ((c : Thread nD τ).loc main_arg1) = W)
    (c : Dev nD) (i : Fin 64) (n r : Fin 1024) (hr : r.val = 64 * c.val + i.val) :
    (outAt m ρ c : FVec Ideal S64x1024 .f32) (ix2 i n) = Ideal.div (prod X W r n) (1 + Ideal.exp (-(prod X W r n))) := by
  rw [← silu_eq, ← total m ρ X W hx hw c i n r hr]
  rfl

end Cert.Exchange
-- ==== Proof.Silu.lean ====
/-
# The reference's value

The reference's result at a row and a column is `y / (1 + exp (−y))`, `y` the product there: the same number as the
kernel's, and the kernel's result on device `c` is block `c` of its rows.
-/
module

public import proofs.«01_k».proof.Proof.Value
public import proofs.«01_k».proof.Proof.Gen.ReferenceIdeal.Run
public import Idealize.ShloMosaic.Lib.IdealHost

@[expose] public section

noncomputable section

namespace Cert.Exchange

open Idealize.ShloMosaic
open Idealize.ShloMosaic.TcCoe
open Idealize.ShloMosaic.ValueIdx (ix2 eq_ix2)

/-- The reference's composed result from the two whole operands. -/
def siluProduct (X W : FVec Ideal Cert.ReferenceIdeal.S1024x1024 .f32) : FVec Ideal Cert.ReferenceIdeal.S1024x1024 .f32 :=
  Host.divf (Host.dotGeneral Cert.ReferenceIdeal.dot_S1024x1024_S1024x1024_S1024x1024_1_0_0_1_n_n none X W)
    (addf (broadcastInDim Cert.ReferenceIdeal.S1024x1024 ![] Cert.ReferenceIdeal.Facts₀.bcast_S_S1024x1024 (constant Cert.ReferenceIdeal.S_ .f32 0x3F800000#32))
      (Host.exp (Host.negf (Host.dotGeneral Cert.ReferenceIdeal.dot_S1024x1024_S1024x1024_S1024x1024_1_0_0_1_n_n none X W))))

/-- The host's product at a row and a column. -/
theorem host_product (X W : FVec Ideal Cert.ReferenceIdeal.S1024x1024 .f32) (r n : Fin 1024) :
    Host.dotGeneral Cert.ReferenceIdeal.dot_S1024x1024_S1024x1024_S1024x1024_1_0_0_1_n_n none X W (ix2 r n) = prod X W r n :=
  StackMember.dotGeneral_plain_apply (m := 1024) (k := 1024) (n := 1024) (φ₁ := .f32) (φ₂ := .f32) none X W r n

/-- The reference's result at a row and a column. -/
theorem siluProduct_apply (X W : FVec Ideal Cert.ReferenceIdeal.S1024x1024 .f32) (r n : Fin 1024) :
    siluProduct X W (ix2 r n) = Ideal.div (prod X W r n) (1 + Ideal.exp (-(prod X W r n))) := by
  rw [← host_product, ← Ideal.ofBits_one_f32]
  rfl

/-- The kernel's result on device `c` is block `c` of the rows of the reference's result. -/
theorem outAt_block (m : (ℓ : Loc Cert.KernelIdeal.nD Cert.KernelIdeal.τ Cert.KernelIdeal.sig) → Buf (Elt Ideal) ℓ) (ρ : Dev Cert.KernelIdeal.nD → PrngReg)
    (X W : FVec Ideal Cert.ReferenceIdeal.S1024x1024 .f32)
    (hx : ∀ c : Dev Cert.KernelIdeal.nD, m ((c : Thread Cert.KernelIdeal.nD Cert.KernelIdeal.τ).loc Cert.KernelIdeal.main_arg0) = Layout.block ⟨2, ![1024, 64]⟩ ⟨2, ![1024, 1024]⟩ 1 16 c X tiles_cols)
    (hw : ∀ c : Dev Cert.KernelIdeal.nD, m ((c : Thread Cert.KernelIdeal.nD Cert.KernelIdeal.τ).loc Cert.KernelIdeal.main_arg1) = W)
    (c : Dev Cert.KernelIdeal.nD) :
    (outAt m ρ c : FVec Ideal Cert.KernelIdeal.S64x1024 .f32) = Layout.block ⟨2, ![64, 1024]⟩ ⟨2, ![1024, 1024]⟩ 0 16 c (siluProduct X W) := by
  funext j
  obtain ⟨i, n, rfl⟩ : ∃ (i : Fin 64) (n : Fin 1024), j = ix2 i n := ⟨j 0, j 1, eq_ix2 j⟩
  have hlt : 64 * c.val + i.val < 1024 := by have := dev_lt c; have := i.isLt; omega
  rw [outAt_apply m ρ X W hx hw c i n ⟨64 * c.val + i.val, hlt⟩ rfl, ← siluProduct_apply, Layout.block_apply]
  congr 1
  funext a
  apply Fin.ext
  match a with
  | ⟨0, _⟩ => show 64 * c.val + i.val = c.val * 64 + i.val; omega
  | ⟨1, _⟩ => rfl

end Cert.Exchange
-- ==== Proof.Clip.lean ====
/-
# The reference with its clip

reference.py clips the exponent's argument to ±60. Where the product lies between −60 and 60, which the mask tells, the
clip changes nothing and the clipped reference has the value of the reference without the clip.
-/
module

public import proofs.«01_k».proof.Proof.Silu
public import proofs.«01_k».proof.Proof.Gen.ClippedIdeal.Run
public import proofs.«01_k».proof.Proof.Gen.On_unclipped

@[expose] public section

noncomputable section

namespace Cert.Exchange

open Idealize.ShloMosaic
open Idealize.ShloMosaic.TcCoe
open Idealize.ShloMosaic.ValueIdx (ix2 eq_ix2)

/-- The clipped reference's composed result from the two whole operands. -/
def clippedProduct (X W : FVec Ideal Cert.ClippedIdeal.S1024x1024 .f32) : FVec Ideal Cert.ClippedIdeal.S1024x1024 .f32 :=
  Host.divf (Host.dotGeneral Cert.ClippedIdeal.dot_S1024x1024_S1024x1024_S1024x1024_1_0_0_1_n_n none X W)
    (addf (broadcastInDim Cert.ClippedIdeal.S1024x1024 ![] Cert.ClippedIdeal.Facts₀.bcast_S_S1024x1024 (constant Cert.ClippedIdeal.S_ .f32 0x3F800000#32))
      (Host.exp (Host.negf
        (minimumf (broadcastInDim Cert.ClippedIdeal.S1024x1024 ![] Cert.ClippedIdeal.Facts₀.bcast_S_S1024x1024 (id (constant Cert.ClippedIdeal.S_ .f32 0x42700000#32)))
          (maximumf (broadcastInDim Cert.ClippedIdeal.S1024x1024 ![] Cert.ClippedIdeal.Facts₀.bcast_S_S1024x1024 (id (constant Cert.ClippedIdeal.S_ .f32 0xC2700000#32)))
            (Host.dotGeneral Cert.ClippedIdeal.dot_S1024x1024_S1024x1024_S1024x1024_1_0_0_1_n_n none X W))))))

/-- The least value that the clip lets pass, -60; -/
def clipLo : EReal := Ideal.ofBits .f32 0xC2700000#32
/-- and the greatest, 60. -/
def clipHi : EReal := Ideal.ofBits .f32 0x42700000#32

/-- The clipped reference's result at a row and a column. -/
theorem clippedProduct_apply (X W : FVec Ideal Cert.ClippedIdeal.S1024x1024 .f32) (r n : Fin 1024) :
    clippedProduct X W (ix2 r n) = Ideal.div (prod X W r n) (1 + Ideal.exp (-(min clipHi (max clipLo (prod X W r n))))) := by
  rw [← host_product, ← Ideal.ofBits_one_f32]
  rfl

/-- Two comparisons' bits are both set only where both comparisons hold. -/
theorem both_hold (p q : Prop) [Decidable p] [Decidable q] (h : BitVec.ofBool (decide p) &&& BitVec.ofBool (decide q) = 1#1) : p ∧ q := by
  by_cases hp : p <;> by_cases hq : q
  · exact ⟨hp, hq⟩
  all_goals simp [hp, hq] at h

open Classical in
/-- Where the mask holds the product lies between the clip's bounds. -/
theorem mask_bounds (X W : FVec Ideal Cert.On_unclipped.S1024x1024 .f32) (r n : Fin 1024)
    (h : Cert.On_unclipped.fn (F := Ideal) X W (ix2 r n) = 1#1) : clipLo ≤ prod X W r n ∧ prod X W r n ≤ clipHi := by
  rw [← host_product]
  exact both_hold _ _ h

/-- So there the two references agree. -/
theorem clipped_eq (X W : FVec Ideal Cert.On_unclipped.S1024x1024 .f32) (j : Cert.On_unclipped.S1024x1024.Idx)
    (h : Cert.On_unclipped.fn (F := Ideal) X W j = 1#1) : siluProduct X W j = clippedProduct X W j := by
  obtain ⟨r, n, rfl⟩ : ∃ (r n : Fin 1024), j = ix2 r n := ⟨j 0, j 1, eq_ix2 j⟩
  obtain ⟨hl, hh⟩ := mask_bounds X W r n h
  rw [siluProduct_apply, clippedProduct_apply, max_eq_right hl, min_eq_right hh]

end Cert.Exchange
-- ==== Proof.lean ====
/-
# The claims

The frames of the kernel, of its idealized text and of the references, and the value: on every device the kernel's result
is its block of rows of the reference's result, and of the clipped reference's wherever the clip changes nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_unclipped
public import proofs.«01_k».proof.Proof.Gen.ClippedIdeal
public import proofs.«01_k».proof.Proof.Gen.ClippedIdeal.Run
public import proofs.«01_k».proof.Proof.Clip
public import Idealize.ShloMosaic.Adequacy
public import Idealize.ShloMosaic.Init

@[expose] public section

noncomputable section

namespace Cert.Proof

open Idealize.ShloMosaic Idealize.SL.Sem Cert.Exchange

/-- The two programs' body tables are one table: they have one label and its body is the same text. -/
theorem bodies_eq {F : FTy → Type} [FloatOps F] : Cert.Kernel.defs₀ (F := F) = Cert.KernelIdeal.defs₀ (F := F) :=
  congrArg Defs.onTc (funext fun l => match l with
    | ⟨0, _⟩ => rfl
    | ⟨_ + 1, h⟩ => absurd h (Nat.not_lt.2 (Nat.le_add_left _ _)))

/-- So are their whole tables. -/
theorem tables_eq {F : FTy → Type} [FloatOps F] : Cert.Kernel.defs (F := F) = Cert.KernelIdeal.defs (F := F) :=
  congrArg (Pipeline.defs Cert.Kernel.pcfgs) bodies_eq

/-- The kernel's frame, over machine words: the run of the same text. -/
theorem frame_kernel : Cert.quiescent_Kernel := fun m ρ _ => by
  rw [tables_eq]
  exact run_kept (F := Bits) m ρ

/-- The idealized kernel's frame. -/
theorem frame_ideal : Cert.quiescent_KernelIdeal := fun m ρ _ => run_kept (F := Ideal) m ρ

/-- The reference's frame: a host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: each device's result is its block of the reference's result. -/
theorem value : Cert.algebraic_KernelIdeal_ReferenceIdeal := fun m ρ m' ρ' _ harg =>
  ⟨siluProduct (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
        ⟨((h.1 c 2).trans (finalA_out m ρ c)).trans (outAt_block m ρ _ _ (fun d => (harg d).1) (fun d => (harg d).2) c),
          (h.1 c 0).trans (finalA_x m ρ c), (h.1 c 1).trans (finalA_w m ρ c)⟩)
      (run_main (F := Ideal) m ρ),
    (θ_run Cert.ReferenceIdeal.defs _ _).mono (fun _ h => h 0) (Cert.ReferenceIdeal.Value.run (F := Ideal) m' ρ')⟩

/-- The clipped reference's frame: a host program without semaphores. -/
theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

/-- The value against the clipped reference: each device's result is its block of that reference's result wherever the
    product lies between the clip's bounds. -/
theorem value_clipped : Cert.algebraic_KernelIdeal_ClippedIdeal_on_unclipped := fun m ρ m' ρ' _ harg =>
  ⟨clippedProduct (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1)),
    (θ_run Cert.KernelIdeal.defs _ _).mono (fun _ h c =>
        ⟨fun i hi => (congrFun (((h.1 c 2).trans (finalA_out m ρ c)).trans (outAt_block m ρ _ _ (fun d => (harg d).1) (fun d => (harg d).2) c)) i).trans
            (clipped_eq _ _ _ hi),
          (h.1 c 0).trans (finalA_x m ρ c), (h.1 c 1).trans (finalA_w m ρ c)⟩)
      (run_main (F := Ideal) m ρ),
    (θ_run Cert.ClippedIdeal.defs _ _).mono (fun _ h => ⟨fun i _ => congrFun (h 0).1 i, (h 0).2⟩) (Cert.ClippedIdeal.Value.run (F := Ideal) m' ρ')⟩

/-- Every claim. -/
theorem claim : Cert.Claim :=
  ⟨Cert.Kernel.Gen.facts, Cert.KernelIdeal.Gen.facts, Cert.ReferenceIdeal.Gen.facts, Cert.ClippedIdeal.Gen.facts, Cert.On_unclipped.Gen.facts,
    frame_kernel, frame_ideal, frame_reference, frame_clipped, trivial, value, value_clipped⟩

end Cert.Proof

end
